-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x1024 : Shape := ⟨2, ![1024, 1024]⟩
abbrev S1024x32 : Shape := ⟨2, ![1024, 32]⟩
abbrev S32x32x32 : Shape := ⟨3, ![32, 32, 32]⟩
abbrev S31 : Shape := ⟨1, ![31]⟩
abbrev S_ : Shape := ⟨0, ![]⟩
abbrev S32x32 : Shape := ⟨2, ![32, 32]⟩
abbrev S1x32x32 : Shape := ⟨3, ![1, 32, 32]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .bf16⟩
  | .hbm, ⟨1, _⟩ => ⟨S1024x1024, .bf16⟩
  | .hbm, ⟨2, _⟩ => ⟨S1024x32, .f32⟩
  | .local _ .vmem, ⟨0, _⟩ => ⟨S32x1024, .bf16⟩
  | .local _ .vmem, ⟨1, _⟩ => ⟨S1024x1024, .bf16⟩
  | .local _ .vmem, ⟨2, _⟩ => ⟨S1024x32, .f32⟩
  | .local _ .vmem, ⟨3, _⟩ => ⟨S32x32x32, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v261 : Index := Scalar.indexCast v2
  let c0_192 : Index := 0#32
  let c0_193 : Index := 0#32
  ![v261.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_194 : BitVec 32 := 32#32
  let v264 : BitVec 32 := Scalar.muli v2 c32_i32_194
  let v265 : Index := Scalar.indexCast v264
  let c0_195 : Index := 0#32
  ![v265.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_199 : BitVec 32 := 32#32
  let v269 : BitVec 32 := Scalar.muli v2 c32_i32_199
  let c0_i32_204 : BitVec 32 := 0#32
  ![v269.toNat, 0]
def k0_off4 (d0 : Dev nD) (c1_i32_197 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v267 : BitVec 32 := Scalar.addi v2 c1_i32_197
  let c32_i32_198 : BitVec 32 := 32#32
  let v268 : BitVec 32 := Scalar.remsi v267 c32_i32_198
  let c0_i32_205 : BitVec 32 := 0#32
  let c0_i32_206 : BitVec 32 := 0#32
  ![v268.toNat, 0, 0]
def k0_dev32 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_197 : BitVec 32 := 1#32
  let v267 : BitVec 32 := Scalar.addi v2 c1_i32_197
  let c32_i32_198 : BitVec 32 := 32#32
  let v268 : BitVec 32 := Scalar.remsi v267 c32_i32_198
  let c1_i32_202 : BitVec 32 := 1#32
  let v270 : BitVec 32 := Scalar.muli v268 c1_i32_202
  let v271 : BitVec 32 := Scalar.addi c0_i32_203 v270
  v271.toNat
def k0_dev33 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_207 : BitVec 32 := 2#32
  let v279 : BitVec 32 := Scalar.addi v2 c2_i32_207
  let c32_i32_208 : BitVec 32 := 32#32
  let v280 : BitVec 32 := Scalar.remsi v279 c32_i32_208
  let c1_i32_212 : BitVec 32 := 1#32
  let v282 : BitVec 32 := Scalar.muli v280 c1_i32_212
  let v283 : BitVec 32 := Scalar.addi c0_i32_213 v282
  v283.toNat
def k0_dev34 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_217 : BitVec 32 := 3#32
  let v291 : BitVec 32 := Scalar.addi v2 c3_i32_217
  let c32_i32_218 : BitVec 32 := 32#32
  let v292 : BitVec 32 := Scalar.remsi v291 c32_i32_218
  let c1_i32_222 : BitVec 32 := 1#32
  let v294 : BitVec 32 := Scalar.muli v292 c1_i32_222
  let v295 : BitVec 32 := Scalar.addi c0_i32_223 v294
  v295.toNat
def k0_dev35 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_227 : BitVec 32 := 4#32
  let v303 : BitVec 32 := Scalar.addi v2 c4_i32_227
  let c32_i32_228 : BitVec 32 := 32#32
  let v304 : BitVec 32 := Scalar.remsi v303 c32_i32_228
  let c1_i32_232 : BitVec 32 := 1#32
  let v306 : BitVec 32 := Scalar.muli v304 c1_i32_232
  let v307 : BitVec 32 := Scalar.addi c0_i32_233 v306
  v307.toNat
def k0_dev36 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_237 : BitVec 32 := 5#32
  let v315 : BitVec 32 := Scalar.addi v2 c5_i32_237
  let c32_i32_238 : BitVec 32 := 32#32
  let v316 : BitVec 32 := Scalar.remsi v315 c32_i32_238
  let c1_i32_242 : BitVec 32 := 1#32
  let v318 : BitVec 32 := Scalar.muli v316 c1_i32_242
  let v319 : BitVec 32 := Scalar.addi c0_i32_243 v318
  v319.toNat
def k0_dev37 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_247 : BitVec 32 := 6#32
  let v327 : BitVec 32 := Scalar.addi v2 c6_i32_247
  let c32_i32_248 : BitVec 32 := 32#32
  let v328 : BitVec 32 := Scalar.remsi v327 c32_i32_248
  let c1_i32_252 : BitVec 32 := 1#32
  let v330 : BitVec 32 := Scalar.muli v328 c1_i32_252
  let v331 : BitVec 32 := Scalar.addi c0_i32_253 v330
  v331.toNat
def k0_dev38 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_257 : BitVec 32 := 7#32
  let v339 : BitVec 32 := Scalar.addi v2 c7_i32_257
  let c32_i32_258 : BitVec 32 := 32#32
  let v340 : BitVec 32 := Scalar.remsi v339 c32_i32_258
  let c1_i32_262 : BitVec 32 := 1#32
  let v342 : BitVec 32 := Scalar.muli v340 c1_i32_262
  let v343 : BitVec 32 := Scalar.addi c0_i32_263 v342
  v343.toNat
def k0_dev39 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_267 : BitVec 32 := 8#32
  let v351 : BitVec 32 := Scalar.addi v2 c8_i32_267
  let c32_i32_268 : BitVec 32 := 32#32
  let v352 : BitVec 32 := Scalar.remsi v351 c32_i32_268
  let c1_i32_272 : BitVec 32 := 1#32
  let v354 : BitVec 32 := Scalar.muli v352 c1_i32_272
  let v355 : BitVec 32 := Scalar.addi c0_i32_273 v354
  v355.toNat
def k0_dev40 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_277 : BitVec 32 := 9#32
  let v363 : BitVec 32 := Scalar.addi v2 c9_i32_277
  let c32_i32_278 : BitVec 32 := 32#32
  let v364 : BitVec 32 := Scalar.remsi v363 c32_i32_278
  let c1_i32_282 : BitVec 32 := 1#32
  let v366 : BitVec 32 := Scalar.muli v364 c1_i32_282
  let v367 : BitVec 32 := Scalar.addi c0_i32_283 v366
  v367.toNat
def k0_dev41 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_287 : BitVec 32 := 10#32
  let v375 : BitVec 32 := Scalar.addi v2 c10_i32_287
  let c32_i32_288 : BitVec 32 := 32#32
  let v376 : BitVec 32 := Scalar.remsi v375 c32_i32_288
  let c1_i32_292 : BitVec 32 := 1#32
  let v378 : BitVec 32 := Scalar.muli v376 c1_i32_292
  let v379 : BitVec 32 := Scalar.addi c0_i32_293 v378
  v379.toNat
def k0_dev42 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_297 : BitVec 32 := 11#32
  let v387 : BitVec 32 := Scalar.addi v2 c11_i32_297
  let c32_i32_298 : BitVec 32 := 32#32
  let v388 : BitVec 32 := Scalar.remsi v387 c32_i32_298
  let c1_i32_302 : BitVec 32 := 1#32
  let v390 : BitVec 32 := Scalar.muli v388 c1_i32_302
  let v391 : BitVec 32 := Scalar.addi c0_i32_303 v390
  v391.toNat
def k0_dev43 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_307 : BitVec 32 := 12#32
  let v399 : BitVec 32 := Scalar.addi v2 c12_i32_307
  let c32_i32_308 : BitVec 32 := 32#32
  let v400 : BitVec 32 := Scalar.remsi v399 c32_i32_308
  let c1_i32_312 : BitVec 32 := 1#32
  let v402 : BitVec 32 := Scalar.muli v400 c1_i32_312
  let v403 : BitVec 32 := Scalar.addi c0_i32_313 v402
  v403.toNat
def k0_dev44 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_317 : BitVec 32 := 13#32
  let v411 : BitVec 32 := Scalar.addi v2 c13_i32_317
  let c32_i32_318 : BitVec 32 := 32#32
  let v412 : BitVec 32 := Scalar.remsi v411 c32_i32_318
  let c1_i32_322 : BitVec 32 := 1#32
  let v414 : BitVec 32 := Scalar.muli v412 c1_i32_322
  let v415 : BitVec 32 := Scalar.addi c0_i32_323 v414
  v415.toNat
def k0_dev45 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_327 : BitVec 32 := 14#32
  let v423 : BitVec 32 := Scalar.addi v2 c14_i32_327
  let c32_i32_328 : BitVec 32 := 32#32
  let v424 : BitVec 32 := Scalar.remsi v423 c32_i32_328
  let c1_i32_332 : BitVec 32 := 1#32
  let v426 : BitVec 32 := Scalar.muli v424 c1_i32_332
  let v427 : BitVec 32 := Scalar.addi c0_i32_333 v426
  v427.toNat
def k0_dev46 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_337 : BitVec 32 := 15#32
  let v435 : BitVec 32 := Scalar.addi v2 c15_i32_337
  let c32_i32_338 : BitVec 32 := 32#32
  let v436 : BitVec 32 := Scalar.remsi v435 c32_i32_338
  let c1_i32_342 : BitVec 32 := 1#32
  let v438 : BitVec 32 := Scalar.muli v436 c1_i32_342
  let v439 : BitVec 32 := Scalar.addi c0_i32_343 v438
  v439.toNat
def k0_dev47 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_347 : BitVec 32 := 16#32
  let v447 : BitVec 32 := Scalar.addi v2 c16_i32_347
  let c32_i32_348 : BitVec 32 := 32#32
  let v448 : BitVec 32 := Scalar.remsi v447 c32_i32_348
  let c1_i32_352 : BitVec 32 := 1#32
  let v450 : BitVec 32 := Scalar.muli v448 c1_i32_352
  let v451 : BitVec 32 := Scalar.addi c0_i32_353 v450
  v451.toNat
def k0_dev48 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_357 : BitVec 32 := 17#32
  let v459 : BitVec 32 := Scalar.addi v2 c17_i32_357
  let c32_i32_358 : BitVec 32 := 32#32
  let v460 : BitVec 32 := Scalar.remsi v459 c32_i32_358
  let c1_i32_362 : BitVec 32 := 1#32
  let v462 : BitVec 32 := Scalar.muli v460 c1_i32_362
  let v463 : BitVec 32 := Scalar.addi c0_i32_363 v462
  v463.toNat
def k0_dev49 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_367 : BitVec 32 := 18#32
  let v471 : BitVec 32 := Scalar.addi v2 c18_i32_367
  let c32_i32_368 : BitVec 32 := 32#32
  let v472 : BitVec 32 := Scalar.remsi v471 c32_i32_368
  let c1_i32_372 : BitVec 32 := 1#32
  let v474 : BitVec 32 := Scalar.muli v472 c1_i32_372
  let v475 : BitVec 32 := Scalar.addi c0_i32_373 v474
  v475.toNat
def k0_dev50 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_377 : BitVec 32 := 19#32
  let v483 : BitVec 32 := Scalar.addi v2 c19_i32_377
  let c32_i32_378 : BitVec 32 := 32#32
  let v484 : BitVec 32 := Scalar.remsi v483 c32_i32_378
  let c1_i32_382 : BitVec 32 := 1#32
  let v486 : BitVec 32 := Scalar.muli v484 c1_i32_382
  let v487 : BitVec 32 := Scalar.addi c0_i32_383 v486
  v487.toNat
def k0_dev51 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_387 : BitVec 32 := 20#32
  let v495 : BitVec 32 := Scalar.addi v2 c20_i32_387
  let c32_i32_388 : BitVec 32 := 32#32
  let v496 : BitVec 32 := Scalar.remsi v495 c32_i32_388
  let c1_i32_392 : BitVec 32 := 1#32
  let v498 : BitVec 32 := Scalar.muli v496 c1_i32_392
  let v499 : BitVec 32 := Scalar.addi c0_i32_393 v498
  v499.toNat
def k0_dev52 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_397 : BitVec 32 := 21#32
  let v507 : BitVec 32 := Scalar.addi v2 c21_i32_397
  let c32_i32_398 : BitVec 32 := 32#32
  let v508 : BitVec 32 := Scalar.remsi v507 c32_i32_398
  let c1_i32_402 : BitVec 32 := 1#32
  let v510 : BitVec 32 := Scalar.muli v508 c1_i32_402
  let v511 : BitVec 32 := Scalar.addi c0_i32_403 v510
  v511.toNat
def k0_dev53 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_407 : BitVec 32 := 22#32
  let v519 : BitVec 32 := Scalar.addi v2 c22_i32_407
  let c32_i32_408 : BitVec 32 := 32#32
  let v520 : BitVec 32 := Scalar.remsi v519 c32_i32_408
  let c1_i32_412 : BitVec 32 := 1#32
  let v522 : BitVec 32 := Scalar.muli v520 c1_i32_412
  let v523 : BitVec 32 := Scalar.addi c0_i32_413 v522
  v523.toNat
def k0_dev54 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_417 : BitVec 32 := 23#32
  let v531 : BitVec 32 := Scalar.addi v2 c23_i32_417
  let c32_i32_418 : BitVec 32 := 32#32
  let v532 : BitVec 32 := Scalar.remsi v531 c32_i32_418
  let c1_i32_422 : BitVec 32 := 1#32
  let v534 : BitVec 32 := Scalar.muli v532 c1_i32_422
  let v535 : BitVec 32 := Scalar.addi c0_i32_423 v534
  v535.toNat
def k0_dev55 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_427 : BitVec 32 := 24#32
  let v543 : BitVec 32 := Scalar.addi v2 c24_i32_427
  let c32_i32_428 : BitVec 32 := 32#32
  let v544 : BitVec 32 := Scalar.remsi v543 c32_i32_428
  let c1_i32_432 : BitVec 32 := 1#32
  let v546 : BitVec 32 := Scalar.muli v544 c1_i32_432
  let v547 : BitVec 32 := Scalar.addi c0_i32_433 v546
  v547.toNat
def k0_dev56 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_437 : BitVec 32 := 25#32
  let v555 : BitVec 32 := Scalar.addi v2 c25_i32_437
  let c32_i32_438 : BitVec 32 := 32#32
  let v556 : BitVec 32 := Scalar.remsi v555 c32_i32_438
  let c1_i32_442 : BitVec 32 := 1#32
  let v558 : BitVec 32 := Scalar.muli v556 c1_i32_442
  let v559 : BitVec 32 := Scalar.addi c0_i32_443 v558
  v559.toNat
def k0_dev57 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_447 : BitVec 32 := 26#32
  let v567 : BitVec 32 := Scalar.addi v2 c26_i32_447
  let c32_i32_448 : BitVec 32 := 32#32
  let v568 : BitVec 32 := Scalar.remsi v567 c32_i32_448
  let c1_i32_452 : BitVec 32 := 1#32
  let v570 : BitVec 32 := Scalar.muli v568 c1_i32_452
  let v571 : BitVec 32 := Scalar.addi c0_i32_453 v570
  v571.toNat
def k0_dev58 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_457 : BitVec 32 := 27#32
  let v579 : BitVec 32 := Scalar.addi v2 c27_i32_457
  let c32_i32_458 : BitVec 32 := 32#32
  let v580 : BitVec 32 := Scalar.remsi v579 c32_i32_458
  let c1_i32_462 : BitVec 32 := 1#32
  let v582 : BitVec 32 := Scalar.muli v580 c1_i32_462
  let v583 : BitVec 32 := Scalar.addi c0_i32_463 v582
  v583.toNat
def k0_dev59 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_467 : BitVec 32 := 28#32
  let v591 : BitVec 32 := Scalar.addi v2 c28_i32_467
  let c32_i32_468 : BitVec 32 := 32#32
  let v592 : BitVec 32 := Scalar.remsi v591 c32_i32_468
  let c1_i32_472 : BitVec 32 := 1#32
  let v594 : BitVec 32 := Scalar.muli v592 c1_i32_472
  let v595 : BitVec 32 := Scalar.addi c0_i32_473 v594
  v595.toNat
def k0_dev60 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_477 : BitVec 32 := 29#32
  let v603 : BitVec 32 := Scalar.addi v2 c29_i32_477
  let c32_i32_478 : BitVec 32 := 32#32
  let v604 : BitVec 32 := Scalar.remsi v603 c32_i32_478
  let c1_i32_482 : BitVec 32 := 1#32
  let v606 : BitVec 32 := Scalar.muli v604 c1_i32_482
  let v607 : BitVec 32 := Scalar.addi c0_i32_483 v606
  v607.toNat
def k0_dev61 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_487 : BitVec 32 := 30#32
  let v615 : BitVec 32 := Scalar.addi v2 c30_i32_487
  let c32_i32_488 : BitVec 32 := 32#32
  let v616 : BitVec 32 := Scalar.remsi v615 c32_i32_488
  let c1_i32_492 : BitVec 32 := 1#32
  let v618 : BitVec 32 := Scalar.muli v616 c1_i32_492
  let v619 : BitVec 32 := Scalar.addi c0_i32_493 v618
  v619.toNat
def k0_dev62 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_497 : BitVec 32 := 31#32
  let v627 : BitVec 32 := Scalar.addi v2 c31_i32_497
  let c32_i32_498 : BitVec 32 := 32#32
  let v628 : BitVec 32 := Scalar.remsi v627 c32_i32_498
  let c1_i32_502 : BitVec 32 := 1#32
  let v630 : BitVec 32 := Scalar.muli v628 c1_i32_502
  let v631 : BitVec 32 := Scalar.addi c0_i32_503 v630
  v631.toNat
abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Norm.lean ====
/-
The body of the kernel as a program with loops.

The printed body is one straight line: 31 signals, 32 stores, 31 transfers and 62 waits, one after another. Here the
same line is written with a repetition over a list of indices (`seqL`), so that each kind of step is a single
program with an index, and the two are equal by unfolding (`body_eq`). The proof of the body then treats each
repetition by one induction.
-/
module

public import proofs.«01_k».proof.Proof.Gen.KernelIdeal
public import proofs.«01_k».proof.Proof.Gen.KernelIdeal.Skeleton
public import Idealize.ShloMosaic.Lib.Pipeline.Regions

@[expose] public section

noncomputable section

namespace Cert.RowsOut

open Cert.KernelIdeal Cert.KernelIdeal.Gen
open Idealize.ShloMosaic Idealize.ShloMosaic.TcCoe
open Idealize.SL Idealize.SL.Sem

variable {F : FTy → Type} [FloatOps F]

/-- Run `f` at each index of the list, in order. -/
def seqL {E : Type → Type} {ι : Type} (f : ι → Prog E PUnit) : List ι → Prog E PUnit
  | [] => pure ⟨⟩
  | i :: l => f i >>= fun _ => seqL f l

/-! ## The device `r + 1` places on, as the kernel computes it -/

/-- The word the kernel computes for the device `k` places after device `d`, read as a number. -/
def devWord (d : Dev nD) (k : BitVec 32) : Nat :=
  (Scalar.addi 0#32 (Scalar.muli (Scalar.remsi (Scalar.addi (Scalar.remsi (Scalar.divsi (Dev.word d) 1#32) 32#32) k) 32#32) 1#32)).toNat

theorem devWord_eq : ∀ (d : Dev nD) (r : Fin 31), devWord d (BitVec.ofNat 32 (1 + r.val)) = (d.val + r.val + 1) % 32 := by
  decide +kernel

theorem devWord_lt (d : Dev nD) (r : Fin 31) : devWord d (BitVec.ofNat 32 (1 + r.val)) < nD := by
  rw [devWord_eq]; exact Nat.mod_lt _ (by decide)

/-- The device `r + 1` places after `d`. -/
def peerW (d : Dev nD) (r : Fin 31) : Dev nD := ⟨devWord d (BitVec.ofNat 32 (1 + r.val)), devWord_lt d r⟩

/-! ## The pieces of the buffers and the semaphores -/

theorem sem_inb (r : Fin 31) : ∀ a, (![r.val] : Fin 1 → Nat) a + S1.size a ≤ S31.size a := by revert r; decide

/-- Semaphore `r` of an array of 31. -/
abbrev semAt (s : DmaSems sig S31) (r : Fin 31) : DmaSem sig :=
  ((s.slice (Rect.unit (s := S31) ![r.val] S1.size (sem_inb r))).squeeze S_ squeezes_S1_S_).sem

/-- The 32 rows of an out buffer that device `d` fills. -/
abbrev rowsOf (o : Memref sig .tc .vmem S1024x32 .f32) (d : Dev nD) : Memref sig .tc .vmem S32x32 .f32 :=
  o.slice (Rect.unit (s := S1024x32) (k0_off3 d) S32x32.size (k0_off3_inb d)) (fun _ => rfl)

/-- The piece of the product that device `d` sends to the device `r + 1` places on. -/
abbrev pieceOf (y : Memref sig .tc .vmem S32x32x32 .f32) (d : Dev nD) (r : Fin 31) : Memref sig .tc .vmem S32x32 .f32 :=
  (y.slice (Rect.unit (s := S32x32x32) (k0_off4 d (BitVec.ofNat 32 (1 + r.val))) S1x32x32.size (k0_off4_inb d r)) (fun _ => rfl)).squeeze
    S32x32 squeezes_S1x32x32_S32x32

theorem piece_inb (b : Fin 32) : ∀ a, (![b.val, 0, 0] : Fin 3 → Nat) a + S1x32x32.size a ≤ S32x32x32.size a := by revert b; decide
theorem cols_inb (b : Fin 32) : S32x1024.Slices ![0, 32 * b.val] S32x32 := by revert b; decide

/-- The rectangle of piece `b` in the buffer of the product. -/
abbrev pieceRect (b : Fin 32) : Rect S32x32x32 := Rect.unit (s := S32x32x32) ![b.val, 0, 0] S1x32x32.size (piece_inb b)

/-- The value stored as piece `b`: columns `32 b` to `32 b + 31` of the product. -/
def pieceVal (b : Fin 32) (p : FVec F S32x1024 .f32) : FVec F S1x32x32 .f32 :=
  shapeCast S1x32x32 (extractStridedSlice S32x32 ![0, 32 * b.val] p (cols_inb b)) shapeCasts_S32x32_S1x32x32

abbrev KProg (F : FTy → Type) [FloatOps F] := Prog (TpuEff nD τ sig (Elt F) Λ₀ .tc) PUnit

variable (x : Memref sig .tc .vmem S32x1024 .bf16) (w : Memref sig .tc .vmem S1024x1024 .bf16)
  (o : Memref sig .tc .vmem S1024x32 .f32) (y : Memref sig .tc .vmem S32x32x32 .f32) (ss rs : DmaSems sig S31)

/-- The semaphore on which the devices announce themselves to one another. -/
abbrev barSem : Sem sig := (SemArray.scalar (sig.barrier 0 rfl) : Sems sig S_).sem

/-! ## One step of each kind -/

/-- Tell the device `r + 1` places on that this device has begun. -/
def signalStep (d : Dev nD) (r : Fin 31) : KProg F := semSignalWord (peerW d r) barSem 1#32

/-- Store piece `b` of the product `p` (after a read of the same place, which is not used). -/
def storeStep (p : FVec F S32x1024 .f32) (b : Fin 32) : KProg F := do
  let _ ← Prog.lift (.load y (pieceRect b).toLoadRect (View.loadsAt_vmem h_S1x32x32))
  Prog.lift (.store y (pieceRect b) (pieceVal b p) Finset.univ (View.stores_vmem_bits_univ h_S1x32x32 rfl) (.inl rfl))

/-- Start the transfer of a piece to the device `r + 1` places on. -/
def sendStep (d : Dev nD) (r : Fin 31) : KProg F :=
  Prog.lift (.enqueueDma (pieceOf y d r) (.remote (Dev.tc (peerW d r)) (rowsOf o d) (.dma (semAt ss r))) (.dma (semAt rs r))
    ((View.wordExact_bits rfl).reshape _ _) (View.wordExact_bits rfl) ⟨⟨rfl, Or.inl rfl⟩, trivial⟩)

/-- Wait until transfer `r` has left, then until the one that arrives on the same index has landed. -/
def waitStep (d : Dev nD) (r : Fin 31) : KProg F := do
  Prog.lift (.waitDma2 (semAt ss r) (rowsOf o d) (pieceOf y d r) (View.wordExact_bits rfl) ((View.wordExact_bits rfl).reshape _ _))
  Prog.lift (.waitDma2 (semAt rs r) (pieceOf y d r) (rowsOf o d) ((View.wordExact_bits rfl).reshape _ _) (View.wordExact_bits rfl))

/-- Copy the device's own piece to its own rows. -/
def ownStep (d : Dev nD) : KProg F := do
  let v ← Prog.lift (.load y (Rect.unit (s := S32x32x32) (k0_off1 d) S1x32x32.size (k0_off1_inb d)).toLoadRect (View.loadsAt_vmem h_S1x32x32))
  let _ ← Prog.lift (.load o (Rect.unit (s := S1024x32) (k0_off2 d) S32x32.size (k0_off2_inb d)).toLoadRect (View.loadsAt_vmem h_S32x32))
  Prog.lift (.store o (Rect.unit (s := S1024x32) (k0_off2 d) S32x32.size (k0_off2_inb d)) (k0_pay38 v) Finset.univ
    (View.stores_vmem_bits_univ h_S32x32 rfl) (.inl rfl))

/-- The body with its repetitions. -/
def bodyLoops : KProg F := do
  let d : Dev nD ← Prog.lift .deviceId
  seqL (signalStep d) (List.finRange 31)
  let a ← Prog.lift (.load x (Rect.unit (s := S32x1024) ![0, 0] S32x1024.size inb_S32x1024_S32x1024_0_0).toLoadRect (View.loadsAt_vmem h_S32x1024))
  let b ← Prog.lift (.load w (Rect.unit (s := S1024x1024) ![0, 0] S1024x1024.size inb_S1024x1024_S1024x1024_0_0).toLoadRect (View.loadsAt_vmem h_S1024x1024))
  seqL (storeStep y (k0_pay1 a b)) (List.finRange 32)
  ownStep o y d
  semWaitWord barSem 31#32
  seqL (sendStep o y ss rs d) (List.finRange 31)
  seqL (waitStep o y ss rs d) (List.finRange 31)

set_option maxRecDepth 65536 in
/-- The printed body is the body with its repetitions. -/
theorem body_eq (hx : x.IsWhole) (hw : w.IsWhole) (ho : o.IsWhole) (hy : y.IsWhole) :
    cc0_body (F := F) x hx w hw o ho y hy ss rs = bodyLoops x w o y ss rs := by
  chain_rfl

end Cert.RowsOut

end
-- ==== Proof.Sets.lean ====
/-
The pieces of the two buffers the devices exchange, and what they hold.

The buffer of the product has 32 pieces, piece `b` being the block at first coordinate `b`; the out buffer has 32
groups of 32 rows, group `s` being the rows device `s` fills. Here the elements under each view the body uses are named
by plain arithmetic on coordinates, the two buffers are cut into those sets, and each write of the body is shown to
leave one fixed array (`cut` or `gather`) on its set.
-/
module

public import proofs.«01_k».proof.Proof.Norm
public import Idealize.ShloMosaic.Lib.Ring
public import Idealize.ShloMosaic.Lib.ValueLayout

@[expose] public section

noncomputable section

namespace Cert.RowsOut

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The devices around the circle -/

/-- The device `r + 1` places after `d`. -/
def peer (d : Dev nD) (r : Fin 31) : Dev nD := ⟨(d.val + r.val + 1) % 32, Nat.mod_lt _ (by decide)⟩

theorem peerW_eq (d : Dev nD) (r : Fin 31) : peerW d r = peer d r := Fin.ext (devWord_eq d r)

/-- Going back `r + 1` places is going on `31 - r`. -/
def rev (r : Fin 31) : Fin 31 := ⟨30 - r.val, by omega⟩

theorem rev_rev (r : Fin 31) : rev (rev r) = r := Fin.ext (by have := r.isLt; simp only [rev]; omega)

theorem peer_rev (d : Dev nD) (r : Fin 31) : peer (peer d (rev r)) r = d := by
  have h1 : d.val < 32 := d.isLt
  have h2 := r.isLt
  refine Fin.ext ?_
  simp only [peer, rev]; omega

theorem peer_peer_rev (d : Dev nD) (r : Fin 31) : peer (peer d r) (rev r) = d := by
  have h := peer_rev d (rev r)
  rwa [rev_rev] at h

theorem peer_ne (d : Dev nD) (r : Fin 31) : peer d r ≠ d := by
  have h1 : d.val < 32 := d.isLt
  have h2 := r.isLt
  intro h
  have := congrArg Fin.val h
  simp only [peer] at this; omega

theorem peer_inj (d : Dev nD) : Function.Injective (peer d) := fun r r' h => by
  have h1 : d.val < 32 := d.isLt
  have h2 := r.isLt
  have h3 := r'.isLt
  have := congrArg Fin.val h
  simp only [peer] at this
  exact Fin.ext (by omega)

/-- Every other device is `r + 1` places on for one `r`. -/
theorem exists_peer (d e : Dev nD) (h : e ≠ d) : ∃ r, peer d r = e := by
  have h1 : d.val < 32 := d.isLt
  have h2 : e.val < 32 := e.isLt
  have h3 : e.val ≠ d.val := fun h' => h (Fin.ext h')
  exact ⟨⟨(e.val + 31 - d.val) % 32, by omega⟩, Fin.ext (by simp only [peer]; omega)⟩

/-! ## The buffers -/

abbrev xM : Memref sig .tc .vmem S32x1024 .bf16 := Memref.whole cc0_stg0_0
abbrev wM : Memref sig .tc .vmem S1024x1024 .bf16 := Memref.whole cc0_stg1_0
abbrev oM : Memref sig .tc .vmem S1024x32 .f32 := Memref.whole cc0_stg2_0
abbrev yM : Memref sig .tc .vmem S32x32x32 .f32 := Memref.whole cc0_scratch0

/-- The elements of piece `b` of the product's buffer. -/
def pieceSet (b : Fin 32) : Finset S32x32x32.Idx := Finset.univ.filter fun i => (i 0).val = b.val
/-- The elements of the rows device `s` fills in an out buffer. -/
def rowSet (s : Fin 32) : Finset S1024x32.Idx := Finset.univ.filter fun i => (i 0).val / 32 = s.val

theorem mem_pieceSet {b : Fin 32} {i : S32x32x32.Idx} : i ∈ pieceSet b ↔ (i 0).val = b.val := by simp [pieceSet]
theorem mem_rowSet {s : Fin 32} {i : S1024x32.Idx} : i ∈ rowSet s ↔ (i 0).val / 32 = s.val := by simp [rowSet]

theorem pieceSet_disjoint (b b' : Fin 32) (h : b ≠ b') : Disjoint (pieceSet b) (pieceSet b') :=
  Finset.disjoint_left.mpr fun _ h1 h2 => h (Fin.ext ((mem_pieceSet.mp h1).symm.trans (mem_pieceSet.mp h2)))
theorem rowSet_disjoint (b b' : Fin 32) (h : b ≠ b') : Disjoint (rowSet b) (rowSet b') :=
  Finset.disjoint_left.mpr fun _ h1 h2 => h (Fin.ext ((mem_rowSet.mp h1).symm.trans (mem_rowSet.mp h2)))

theorem pieceSet_cover : Finset.univ.biUnion pieceSet = Finset.univ :=
  Finset.eq_univ_iff_forall.mpr fun i =>
    Finset.mem_biUnion.mpr ⟨⟨(i 0).val, (i 0).isLt⟩, Finset.mem_univ _, mem_pieceSet.mpr rfl⟩
theorem rowSet_cover : Finset.univ.biUnion rowSet = Finset.univ :=
  Finset.eq_univ_iff_forall.mpr fun i =>
    Finset.mem_biUnion.mpr ⟨⟨(i 0).val / 32, by have h : (i 0).val < 1024 := (i 0).isLt; omega⟩, Finset.mem_univ _, mem_rowSet.mpr rfl⟩

/-- A unit rectangle of one block of the product's buffer, starting at block `b`, is piece `b`. -/
theorem unit_pieceSet {off : Fin 3 → Nat} (inb) (b : Fin 32) (h : off = ![b.val, 0, 0]) :
    (Rect.unit (s := S32x32x32) off S1x32x32.size inb).set = pieceSet b := by
  subst h
  ext i
  rw [Rect.mem_set_unit, mem_pieceSet]
  constructor
  · intro hi
    obtain ⟨h1, h2⟩ := hi 0
    have h1' : b.val ≤ (i 0).val := h1
    have h2' : (i 0).val < b.val + 1 := h2
    omega
  · intro hi a
    match a with
    | ⟨0, _⟩ => exact ⟨show b.val ≤ (i 0).val by omega, show (i 0).val < b.val + 1 by omega⟩
    | ⟨1, _⟩ => exact ⟨Nat.zero_le _, show (i 1).val < 0 + 32 by have : (i 1).val < 32 := (i 1).isLt; omega⟩
    | ⟨2, _⟩ => exact ⟨Nat.zero_le _, show (i 2).val < 0 + 32 by have : (i 2).val < 32 := (i 2).isLt; omega⟩

/-- A unit rectangle of 32 rows of an out buffer, starting at row `32 s`, is the rows of device `s`. -/
theorem unit_rowSet {off : Fin 2 → Nat} (inb) (s : Fin 32) (h : off = ![32 * s.val, 0]) :
    (Rect.unit (s := S1024x32) off S32x32.size inb).set = rowSet s := by
  subst h
  ext i
  rw [Rect.mem_set_unit, mem_rowSet]
  constructor
  · intro hi
    obtain ⟨h1, h2⟩ := hi 0
    have h1' : 32 * s.val ≤ (i 0).val := h1
    have h2' : (i 0).val < 32 * s.val + 32 := h2
    omega
  · intro hi a
    match a with
    | ⟨0, _⟩ => exact ⟨show 32 * s.val ≤ (i 0).val by omega, show (i 0).val < 32 * s.val + 32 by omega⟩
    | ⟨1, _⟩ => exact ⟨Nat.zero_le _, show (i 1).val < 0 + 32 by have : (i 1).val < 32 := (i 1).isLt; omega⟩

theorem off4_eq (d : Dev nD) (r : Fin 31) : k0_off4 d (BitVec.ofNat 32 (1 + r.val)) = ![(peer d r).val, 0, 0] := k0_off4_eq d r

theorem set_pieceOf (d : Dev nD) (r : Fin 31) : (pieceOf yM d r).view.set = pieceSet (peer d r) :=
  (Memref.set_view_squeeze _ _).trans ((View.set_slice_whole _ _).trans (unit_pieceSet _ (peer d r) (off4_eq d r)))

theorem set_rowsOf (d : Dev nD) : (rowsOf oM d).view.set = rowSet d :=
  (View.set_slice_whole _ _).trans (unit_rowSet _ d (k0_off3_eq d))

theorem set_pieceRect (b : Fin 32) : (yM.access (pieceRect b)).set = pieceSet b :=
  (View.set_slice_whole _ _).trans (unit_pieceSet _ b rfl)

abbrev ownSrc (d : Dev nD) : Rect S32x32x32 := Rect.unit (s := S32x32x32) (k0_off1 d) S1x32x32.size (k0_off1_inb d)
abbrev ownDst (d : Dev nD) : Rect S1024x32 := Rect.unit (s := S1024x32) (k0_off2 d) S32x32.size (k0_off2_inb d)

theorem set_ownSrc (d : Dev nD) : (yM.access (ownSrc d)).set = pieceSet d :=
  (View.set_slice_whole _ _).trans (unit_pieceSet _ d (k0_off1_eq d))
theorem set_ownDst (d : Dev nD) : (oM.access (ownDst d)).set = rowSet d :=
  (View.set_slice_whole _ _).trans (unit_rowSet _ d (k0_off2_eq d))

/-! ## What the buffers hold -/

/-- A product cut into its 32 pieces of 32 columns. -/
def cut (p : FVec F S32x1024 .f32) : FVec F S32x32x32 .f32 := fun i =>
  p (ix2 (i 1) ⟨32 * (i 0).val + (i 2).val, by
    have h0 : (i 0).val < 32 := (i 0).isLt
    have h2 : (i 2).val < 32 := (i 2).isLt
    omega⟩)

/-- The device whose rows row `i` is among. -/
def rowDev (i : S1024x32.Idx) : Dev nD :=
  ⟨(i 0).val / 32, show (i 0).val / 32 < 32 by have h : (i 0).val < 1024 := (i 0).isLt; omega⟩

/-- The out buffer of device `c`: the rows of device `s` are piece `c` of device `s`'s product. -/
def gather (P : Dev nD → FVec F S32x1024 .f32) (c : Dev nD) : FVec F S1024x32 .f32 := fun i =>
  cut (P (rowDev i)) (ix3 c ⟨(i 0).val % 32, Nat.mod_lt _ (by decide)⟩ (i 1))

theorem gather_at (P : Dev nD → FVec F S32x1024 .f32) (c s : Dev nD) (j : Fin 32) (k : Fin 32) (i : S1024x32.Idx)
    (h0 : (i 0).val = 32 * s.val + j.val) (h1 : (i 1).val = k.val) : gather P c i = cut (P s) (ix3 c j k) := by
  have hj := j.isLt
  unfold gather
  rw [show rowDev i = s from Fin.ext (show (i 0).val / 32 = s.val by omega),
    show (⟨(i 0).val % 32, Nat.mod_lt _ (by decide)⟩ : Fin 32) = j from Fin.ext (show (i 0).val % 32 = j.val by omega),
    show (i 1 : Fin 32) = k from Fin.ext h1]

theorem pieceVal_at (b : Fin 32) (p : FVec F S32x1024 .f32) (u : Fin 1) (j k : Fin 32) :
    pieceVal b p (ix3 u j k) = cut p (ix3 b j k) := by
  unfold pieceVal
  rw [shapeCast_ab_1ab_apply]
  exact extractStridedSlice_apply _ _ _ _ _ fun a => match a with
    | ⟨0, _⟩ => (Nat.zero_add _).symm
    | ⟨1, _⟩ => rfl

/-- After the store of piece `b`, the piece holds the cut product. -/
theorem write_piece (b : Fin 32) (p : FVec F S32x1024 .f32) (f : FVec F S32x32x32 .f32) :
    ∀ i ∈ pieceSet b, (yM.access (pieceRect b)).write (Elt F) f (pieceVal b p) Finset.univ i = cut p i := by
  intro i hi
  rw [← set_pieceRect b] at hi
  obtain ⟨x, -, rfl⟩ := Finset.mem_map.mp hi
  rw [View.write_emb_of_mem _ _ (Finset.mem_univ x)]
  show pieceVal b p x = _
  rw [eq_ix3 x]
  refine (pieceVal_at b p (x 0) (x 1) (x 2)).trans (congrArg (cut p) (funext fun a => Fin.ext ?_))
  have hx : (x 0).val = 0 := by have : (x 0).val < 1 := (x 0).isLt; omega
  match a with
  | ⟨0, _⟩ => show b.val = b.val + 1 * (x 0).val; omega
  | ⟨1, _⟩ => show (x 1).val = 0 + 1 * (x 1).val; omega
  | ⟨2, _⟩ => show (x 2).val = 0 + 1 * (x 2).val; omega

/-- A block of one piece, its leading axis dropped. -/
theorem drop_at {α : Type} (v : S1x32x32.Idx → α) (h : S1x32x32.ShapeCasts S32x32) (x : S32x32.Idx) :
    shapeCast S32x32 v h x = v (ix3 (0 : Fin 1) (x 0) (x 1)) := by
  conv_lhs => rw [eq_ix2 (n0 := 32) (n1 := 32) x]
  exact shapeCast_1ab_ab_apply (a := 32) (b := 32) v h (x 0) (x 1)

/-- A piece read through the view a transfer sends. -/
theorem read_pieceOf (d : Dev nD) (r : Fin 31) (f : FVec F S32x32x32 .f32) (x : S32x32.Idx) :
    (pieceOf yM d r).view.read (Elt F) f x = f (ix3 (peer d r) (x 0) (x 1)) := by
  refine (drop_at (yM.view.readAt (Elt F) (Rect.unit (s := S32x32x32) (k0_off4 d (BitVec.ofNat 32 (1 + r.val))) S1x32x32.size
    (k0_off4_inb d r)).toLoadRect f) shapeCasts_S1x32x32_S32x32 x).trans ?_
  refine congrArg f (funext fun a => Fin.ext ?_)
  have h4 := off4_eq d r
  match a with
  | ⟨0, _⟩ => show k0_off4 d (BitVec.ofNat 32 (1 + r.val)) 0 + 1 * 0 = (peer d r).val; rw [h4]; rfl
  | ⟨1, _⟩ => show k0_off4 d (BitVec.ofNat 32 (1 + r.val)) 1 + 1 * (x 0).val = (x 0).val; rw [h4]; show 0 + 1 * (x 0).val = (x 0).val; omega
  | ⟨2, _⟩ => show k0_off4 d (BitVec.ofNat 32 (1 + r.val)) 2 + 1 * (x 1).val = (x 1).val; rw [h4]; show 0 + 1 * (x 1).val = (x 1).val; omega

/-- After a transfer from device `d` has landed on the device `r + 1` places on, the rows of `d` there hold what the
    gathered array holds. -/
theorem write_rows (P : Dev nD → FVec F S32x1024 .f32) (d : Dev nD) (r : Fin 31) (f : FVec F S1024x32 .f32) :
    ∀ i ∈ rowSet d, (rowsOf oM d).view.write (Elt F) f ((pieceOf yM d r).view.read (Elt F) (cut (P d))) Finset.univ i
      = gather P (peer d r) i := by
  intro i hi
  rw [← set_rowsOf d] at hi
  obtain ⟨x, -, rfl⟩ := Finset.mem_map.mp hi
  rw [View.write_emb_of_mem _ _ (Finset.mem_univ x)]
  show (pieceOf yM d r).view.read (Elt F) (cut (P d)) x = _
  refine (read_pieceOf d r _ x).trans (gather_at P (peer d r) d (x 0) (x 1) _ ?_ ?_).symm
  · show k0_off3 d 0 + 1 * (x 0).val = 32 * d.val + (x 0).val
    rw [k0_off3_eq d]; show 32 * d.val + 1 * (x 0).val = _; omega
  · show k0_off3 d 1 + 1 * (x 1).val = (x 1).val
    rw [k0_off3_eq d]; show 0 + 1 * (x 1).val = _; omega

/-- After the device's own copy, its own rows hold what the gathered array holds. -/
theorem write_own (P : Dev nD → FVec F S32x1024 .f32) (d : Dev nD) (f : FVec F S1024x32 .f32) :
    ∀ i ∈ rowSet d, (oM.access (ownDst d)).write (Elt F) f
        (k0_pay38 (yM.view.readAt (Elt F) (ownSrc d).toLoadRect (cut (P d)))) Finset.univ i
      = gather P d i := by
  intro i hi
  rw [← set_ownDst d] at hi
  obtain ⟨x, -, rfl⟩ := Finset.mem_map.mp hi
  rw [View.write_emb_of_mem _ _ (Finset.mem_univ x)]
  show shapeCast S32x32 (yM.view.readAt (Elt F) (ownSrc d).toLoadRect (cut (P d))) shapeCasts_S1x32x32_S32x32 x = _
  rw [drop_at]
  refine (congrArg (cut (P d)) (funext fun a => Fin.ext ?_)).trans (gather_at P d d (x 0) (x 1) _ ?_ ?_).symm
  · have h1 := k0_off1_eq d
    match a with
    | ⟨0, _⟩ => show k0_off1 d 0 + 1 * 0 = d.val; rw [h1]; rfl
    | ⟨1, _⟩ => show k0_off1 d 1 + 1 * (x 0).val = (x 0).val; rw [h1]; show 0 + 1 * (x 0).val = _; omega
    | ⟨2, _⟩ => show k0_off1 d 2 + 1 * (x 1).val = (x 1).val; rw [h1]; show 0 + 1 * (x 1).val = _; omega
  · show k0_off2 d 0 + 1 * (x 0).val = 32 * d.val + (x 0).val
    rw [k0_off2_eq d]; show 32 * d.val + 1 * (x 0).val = _; omega
  · show k0_off2 d 1 + 1 * (x 1).val = (x 1).val
    rw [k0_off2_eq d]; show 0 + 1 * (x 1).val = _; omega

end Cert.RowsOut

end
-- ==== Proof.Sched.lean ====
/-
The exchange as a schedule of duties.

Every device has one barrier cell, 31 send cells and 31 receive cells. A barrier cell is paid one unit by each other
device, and with that unit the payer hands over those rows of its own out buffer which the owner of the cell will fill.
A send cell is paid when the transfer has left, and gives the piece back; a receive cell is paid when the transfer that
arrives there has landed, and gives the rows, now holding what the gathered array holds.
-/
module

public import proofs.«01_k».proof.Proof.Sets
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.RowsOut

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the staging's own and the exchange's, whose duties are named by `Fin 31` -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev sendS : DmaSems sig S31 := cc0_scratch1
abbrev recvS : DmaSems sig S31 := cc0_scratch2

/-- A device's cells: its barrier, its sends, its receives. -/
abbrev CK : Type := Unit ⊕ (Fin 31 ⊕ Fin 31)

/-- The two arrays of transfer semaphores, as one family. -/
abbrev osem : Fin 31 ⊕ Fin 31 → SemLoc sig
  | .inl r => .dma (semAt sendS r)
  | .inr r => .dma (semAt recvS r)
abbrev csem : CK → SemLoc sig
  | .inl _ => .reg barSem
  | .inr k => osem k

abbrev kcell (ck : Dev nD × CK) : GSem nD τ sig := ((ck.1 : Thread nD τ), csem ck.2)
abbrev barCell (c : Dev nD) : GSem nD τ sig := ((c : Thread nD τ), .reg barSem)
abbrev sendCell (c : Dev nD) (r : Fin 31) : GSem nD τ sig := ((c : Thread nD τ), .dma (semAt sendS r))
abbrev recvCell (c : Dev nD) (r : Fin 31) : GSem nD τ sig := ((c : Thread nD τ), .dma (semAt recvS r))

/-- Which of a device's cells a semaphore is, if one of them. -/
def kindOf : SemLoc sig → Option CK
  | .reg s => if s = barSem then some (.inl ()) else none
  | .dma q =>
    if h : 3 ≤ q.val ∧ q.val < 34 then some (.inr (.inl ⟨q.val - 3, by omega⟩))
    else if h : 34 ≤ q.val ∧ q.val < 65 then some (.inr (.inr ⟨q.val - 34, by omega⟩))
    else none

theorem kindOf_bar : kindOf (.reg barSem) = some (.inl ()) := by unfold kindOf; exact if_pos rfl
theorem kindOf_send : ∀ r : Fin 31, kindOf (.dma (semAt sendS r)) = some (.inr (.inl r)) := by decide +kernel
theorem kindOf_recv : ∀ r : Fin 31, kindOf (.dma (semAt recvS r)) = some (.inr (.inr r)) := by decide +kernel

theorem kindOf_csem : ∀ k : CK, kindOf (csem k) = some k
  | .inl _ => kindOf_bar
  | .inr (.inl r) => kindOf_send r
  | .inr (.inr r) => kindOf_recv r

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kindOf_csem k, ← kindOf_csem k', h2]
  rw [h1, Option.some.inj h3]

/-- What a transfer of 32 rows adds to its semaphores. -/
abbrev N : ℕ := (rowsOf oM (0 : Fin 32)).view.dmaCredit
theorem N_pos : 0 < N := View.dmaCredit_pos _ (by decide)
theorem credit_rows (d : Dev nD) : (rowsOf oM d).view.dmaCredit = N := rfl
theorem credit_piece (d : Dev nD) (r : Fin 31) : (pieceOf yM d r).view.dmaCredit = N := rfl

/-! ## What passes between the devices -/

variable (P : Dev nD → FVec F S32x1024 .f32)

/-- Rows of device `s` in the out buffer of device `c`, at some contents. -/
def rowsAny (c s : Dev nD) : sProp 𝕄 :=
  iprop(∃ f : Buf (Elt F) ((c : Thread nD τ).loc cc0_stg2_0), ((c : Thread nD τ).loc cc0_stg2_0) ↦[rowSet s]{fullShare} f)
/-- The same rows holding what the gathered array holds. -/
def rowsAt (c s : Dev nD) : sProp 𝕄 := ((c : Thread nD τ).loc cc0_stg2_0) ↦[rowSet s]{fullShare} gather P c
/-- Piece `b` of device `c`'s product. -/
def pieceAt (c b : Dev nD) : sProp 𝕄 := ((c : Thread nD τ).loc cc0_scratch0) ↦[pieceSet b]{fullShare} cut (P c)
/-- Piece `b` of device `c`'s buffer for the product, at some contents. -/
def pieceAny (c b : Dev nD) : sProp 𝕄 :=
  iprop(∃ f : Buf (Elt F) ((c : Thread nD τ).loc cc0_scratch0), ((c : Thread nD τ).loc cc0_scratch0) ↦[pieceSet b]{fullShare} f)

omit [FloatOps F] in
instance rowsAny_storable (c s : Dev nD) : BI.Storable (upEmb : UEmb _ 𝕄) (rowsAny (F := F) c s) := by unfold rowsAny; infer_instance
omit [FloatOps F] in
instance rowsAt_storable (c s : Dev nD) : BI.Storable (upEmb : UEmb _ 𝕄) (rowsAt (F := F) P c s) := by unfold rowsAt; infer_instance
omit [FloatOps F] in
instance pieceAt_storable (c b : Dev nD) : BI.Storable (upEmb : UEmb _ 𝕄) (pieceAt (F := F) P c b) := by unfold pieceAt; infer_instance

/-- What the payment of a duty hands over, by the kind of the cell: on the barrier of `c`, duty `d` is paid by the device
    whose `d + 1` places on is `c`. -/
def payOf (c : Dev nD) (d : Fin 31) : Option CK → sProp 𝕄
  | some (.inl _) => rowsAny (peer c (rev d)) c
  | some (.inr (.inl r)) => pieceAt P c (peer c r)
  | some (.inr (.inr r)) => rowsAt P c (peer c (rev r))
  | none => iprop(emp)

omit [FloatOps F] in
instance payOf_storable (c : Dev nD) (d : Fin 31) (k : Option CK) : BI.Storable (upEmb : UEmb _ 𝕄) (payOf (F := F) P c d k) := by
  unfold payOf; split <;> infer_instance

/-- The duties of a cell, by its kind: the barrier's are one for each other device, a transfer's is one. -/
def dutiesOf : Option CK → Finset (Fin 31)
  | some (.inl _) => Finset.univ
  | some (.inr _) => {0}
  | none => ∅
/-- The units of each. -/
def unitsOf : Option CK → ℕ
  | some (.inl _) => 1
  | _ => N

theorem unitsOf_pos : ∀ k, 0 < unitsOf k
  | some (.inl _) => Nat.one_pos
  | some (.inr _) => N_pos
  | none => N_pos

/-- One round of payments. -/
def sched : Rounds.Schedule (GSem nD τ sig) (Fin 31) 𝕄 where
  duties g r := if r = 0 ∧ g.1.2 = .tc then dutiesOf (kindOf g.2) else ∅
  unitless _ := False
  amount g _ _ := unitsOf (kindOf g.2)
  payload g _ d := payOf P g.1.1 d (kindOf g.2)
  amount_pos g _ _ _ := unitsOf_pos _

omit [FloatOps F] in
instance sched_payload_storable (g : GSem nD τ sig) (r : ℕ) (d : Fin 31) :
    BI.Storable (upEmb : UEmb _ 𝕄) ((sched (F := F) P).payload g r d) := payOf_storable P _ _ _

section Sched
variable (c : Dev nD) (r : Fin 31)

omit [FloatOps F] in
theorem duties_cell (k : CK) : (sched (F := F) P).duties (kcell (c, k)) 0 = dutiesOf (some k) := by
  dsimp only [sched]; rw [if_pos ⟨rfl, rfl⟩, kindOf_csem]
omit [FloatOps F] in
theorem duties_bar : (sched (F := F) P).duties (barCell c) 0 = Finset.univ := duties_cell P c (.inl ())
omit [FloatOps F] in
theorem duties_send : (sched (F := F) P).duties (sendCell c r) 0 = {0} := duties_cell P c (.inr (.inl r))
omit [FloatOps F] in
theorem duties_recv : (sched (F := F) P).duties (recvCell c r) 0 = {0} := duties_cell P c (.inr (.inr r))
omit [FloatOps F] in
theorem duties_later (g : GSem nD τ sig) (n : ℕ) (hn : 1 ≤ n) : (sched (F := F) P).duties g n = ∅ :=
  if_neg fun h => by omega

omit [FloatOps F] in
theorem amount_bar (d : Fin 31) : (sched (F := F) P).amount (barCell c) 0 d = 1 := congrArg unitsOf kindOf_bar
omit [FloatOps F] in
theorem amount_send (d : Fin 31) : (sched (F := F) P).amount (sendCell c r) 0 d = N := congrArg unitsOf (kindOf_send r)
omit [FloatOps F] in
theorem amount_recv (d : Fin 31) : (sched (F := F) P).amount (recvCell c r) 0 d = N := congrArg unitsOf (kindOf_recv r)

omit [FloatOps F] in
theorem expect_bar : (sched (F := F) P).expect (barCell c) 0 = 31 := by
  unfold Schedule.expect Schedule.amountOf
  rw [duties_bar, Finset.sum_congr rfl fun d _ => amount_bar P c d, Finset.sum_const, Finset.card_univ, Fintype.card_fin, smul_eq_mul]
omit [FloatOps F] in
theorem expect_send : (sched (F := F) P).expect (sendCell c r) 0 = N := by
  unfold Schedule.expect Schedule.amountOf; rw [duties_send, Finset.sum_singleton, amount_send]
omit [FloatOps F] in
theorem expect_recv : (sched (F := F) P).expect (recvCell c r) 0 = N := by
  unfold Schedule.expect Schedule.amountOf; rw [duties_recv, Finset.sum_singleton, amount_recv]

omit [FloatOps F] in
theorem payload_bar (d : Fin 31) : (sched (F := F) P).payload (barCell c) 0 d = rowsAny (peer c (rev d)) c :=
  congrArg (payOf P c d) kindOf_bar
omit [FloatOps F] in
/-- What device `c` hands over with its signal to the device `r + 1` places on. -/
theorem payload_bar_peer : (sched (F := F) P).payload (barCell (peer c r)) 0 r = rowsAny c (peer c r) := by
  rw [payload_bar, peer_peer_rev]
omit [FloatOps F] in
theorem payload_send (d : Fin 31) : (sched (F := F) P).payload (sendCell c r) 0 d = pieceAt P c (peer c r) :=
  congrArg (payOf P c d) (kindOf_send r)
omit [FloatOps F] in
theorem payload_recv (d : Fin 31) : (sched (F := F) P).payload (recvCell c r) 0 d = rowsAt P c (peer c (rev r)) :=
  congrArg (payOf P c d) (kindOf_recv r)
omit [FloatOps F] in
theorem payload_recv_peer (d : Fin 31) : (sched (F := F) P).payload (recvCell (peer c r) r) 0 d = rowsAt P (peer c r) c := by
  rw [payload_recv, peer_peer_rev]

/-- Counting the others backwards. -/
def revEquiv : Fin 31 ≃ Fin 31 := ⟨rev, rev, rev_rev, rev_rev⟩

omit [FloatOps F] in
/-- What the barrier's round gives: from each other device, the rows of its out buffer that `c` fills. -/
theorem rest_bar : bigSep ((sched (F := F) P).duties (barCell c) 0 \ ∅) (fun d => (sched (F := F) P).payload (barCell c) 0 d)
    = bigSep Finset.univ fun r : Fin 31 => rowsAny (peer c r) c := by
  rw [Finset.sdiff_empty, duties_bar, bigSep_univ_equiv revEquiv (fun r : Fin 31 => (rowsAny (F := F) (peer c r) c : sProp 𝕄))]
  exact bigSep_congr fun d _ => payload_bar P c d
omit [FloatOps F] in
theorem rest_send : bigSep ((sched (F := F) P).duties (sendCell c r) 0 \ ∅) (fun d => (sched (F := F) P).payload (sendCell c r) 0 d)
    = pieceAt P c (peer c r) := by
  rw [Finset.sdiff_empty, duties_send, bigSep_singleton, payload_send]
omit [FloatOps F] in
theorem rest_recv : bigSep ((sched (F := F) P).duties (recvCell c r) 0 \ ∅) (fun d => (sched (F := F) P).payload (recvCell c r) 0 d)
    = rowsAt P c (peer c (rev r)) := by
  rw [Finset.sdiff_empty, duties_recv, bigSep_singleton, payload_recv]

end Sched

/-! ## What a device owes, and the order of the cells -/

/-- The landings device `c` still owes, for the transfers in the list. -/
def oweRecv (c : Dev nD) : List (Fin 31) → CellTallies nD τ sig Unit
  | [] => 0
  | r :: l => oweRecv c l + tallyAt (recvCell (peer c r) r) () N
/-- What it owes besides while the signals in the list are still to be sent. -/
def oweBar (c : Dev nD) : List (Fin 31) → CellTallies nD τ sig Unit
  | [] => oweRecv c (List.finRange 31)
  | r :: l => oweBar c l + tallyAt (barCell (peer c r)) () 1
/-- What it owes at launch. -/
def O₀ (c : Dev nD) : CellTallies nD τ sig Unit := oweBar c (List.finRange 31)

theorem oweRecv_apply (c : Dev nD) (g : GSem nD τ sig) (l : List (Fin 31)) :
    oweRecv c l g () = (l.map fun r => if g = recvCell (peer c r) r then N else 0).sum := by
  induction l with
  | nil => rfl
  | cons r l ih =>
    rw [oweRecv, Pi.add_apply, Finsupp.add_apply, ih, tallyAt_apply, List.map_cons, List.sum_cons, Nat.add_comm]
    simp only [and_true]
theorem oweBar_apply (c : Dev nD) (g : GSem nD τ sig) (l : List (Fin 31)) :
    oweBar c l g () = (l.map fun r => if g = barCell (peer c r) then 1 else 0).sum + oweRecv c (List.finRange 31) g () := by
  induction l with
  | nil => exact (Nat.zero_add _).symm
  | cons r l ih =>
    rw [oweBar, Pi.add_apply, Finsupp.add_apply, ih, tallyAt_apply, List.map_cons, List.sum_cons, Nat.add_comm, Nat.add_assoc]
    simp only [and_true]

theorem oweRecv_pos {c : Dev nD} {g : GSem nD τ sig} {u : Unit} {l : List (Fin 31)} (h : 0 < oweRecv c l g u) :
    ∃ r, g = recvCell (peer c r) r := by
  by_contra hn
  rw [not_exists] at hn
  rw [show u = () from rfl, oweRecv_apply, List.map_congr_left (fun r _ => if_neg (hn r))] at h
  simp at h

theorem O₀_pos {c : Dev nD} {g : GSem nD τ sig} {u : Unit} (h : 0 < O₀ c g u) :
    (∃ r, g = recvCell (peer c r) r) ∨ ∃ r, g = barCell (peer c r) := by
  by_contra hn
  rw [not_or, not_exists, not_exists] at hn
  rw [show u = () from rfl, O₀, oweBar_apply, oweRecv_apply, List.map_congr_left (fun r _ => if_neg (hn.2 r)),
    List.map_congr_left (fun r _ => if_neg (hn.1 r))] at h
  simp at h

def L (g : GSem nD τ sig) : Finset Unit := if g.1.2 = .tc then {()} else ∅
/-- A cell's place in the order by its kind: barriers before receives; everything else before both. -/
def rank : Option CK → ℕ
  | some (.inl _) => 1
  | some (.inr (.inr _)) => 2
  | _ => 0
def lv (g : GSem nD τ sig) (_ : Unit) : ℕ := rank (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem lv_bar (c : Dev nD) (u : Unit) : lv (barCell c) u = 1 := congrArg rank kindOf_bar
theorem lv_recv (c : Dev nD) (r : Fin 31) (u : Unit) : lv (recvCell c r) u = 2 := congrArg rank (kindOf_recv r)

omit [FloatOps F] in
/-- A wait on a cell below all barriers is in order while the launch's debts are owed, and once nothing is owed. -/
theorem mayWait_low (c : Dev nD) (sm : SemLoc sig) (hq : rank (kindOf sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp]; exact mem_L c sm _)
      (fun g u hg => by rcases O₀_pos hg with ⟨r, rfl⟩ | ⟨r, rfl⟩ <;> exact mem_L _ _ _)
      (fun p hp => by rw [Finset.mem_singleton.mp hp]; exact Nat.le_of_eq hq)
      (fun g u hg => by
        rcases O₀_pos hg with ⟨r, rfl⟩ | ⟨r, rfl⟩
        · rw [lv_recv]; decide
        · rw [lv_bar]; decide)
  · rw [MayWait_zero]; iintro -; iempintro

omit [FloatOps F] in
/-- At its barrier wait a device owes landings only, on cells above its barrier. -/
theorem mayWait_bar (c : Dev nD) (l : List (Fin 31)) :
    (levAts L lv : sProp 𝕄) ⊢ MayWait (c : Thread nD τ) (.reg barSem) () (oweRecv c l) :=
  MayOwe.of_cut (L := L) (lev := lv) 1 (fun p hp => by rw [Finset.mem_singleton.mp hp]; exact mem_L c _ _)
    (fun g u hg => by obtain ⟨r, rfl⟩ := oweRecv_pos hg; exact mem_L _ _ _)
    (fun p hp => by rw [Finset.mem_singleton.mp hp]; exact Nat.le_of_eq (lv_bar c ()))
    (fun g u hg => by obtain ⟨r, rfl⟩ := oweRecv_pos hg; rw [lv_recv]; decide)

/-! ## The cells' records, which everyone may use -/

variable (K : Dev nD × CK → ℕ)

def records : sProp 𝕄 :=
  iprop((bigSep Finset.univ fun ck : Dev nD × CK => cellInv ER (sched P) (K ck) (kcell ck))
    ∗ bigSep Finset.univ fun ck : Dev nD × CK => reached ER (kcell ck) 0)

instance records_persistent : BI.Persistent (records (F := F) P K) := by unfold records; infer_instance

omit [FloatOps F] in
theorem inv_at (ck : Dev nD × CK) : (records (F := F) P K : sProp 𝕄) ⊢ cellInv ER (sched P) (K ck) (kcell ck) := by
  have h : (bigSep Finset.univ fun ck : Dev nD × CK => (cellInv ER (sched P) (K ck) (kcell ck) : sProp 𝕄))
      ⊢ cellInv ER (sched P) (K ck) (kcell ck) := bigSep_elim (Finset.mem_univ ck)
  unfold records
  iintro ⟨H, -⟩
  iapply h; iexact H
omit [FloatOps F] in
theorem reached_at (ck : Dev nD × CK) : (records (F := F) P K : sProp 𝕄) ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

end Cert.RowsOut

end
-- ==== Proof.Steps.lean ====
/-
One step of each kind of the body, and the rule that repeats it.

A repetition carries a state `S` that depends on the indices still to come, takes what each index needs (`A`) and leaves
what each index gives (`B`). The steps are: the signal to one other device, the store of one piece, the start of one
transfer, and the two waits of one index.
-/
module

public import proofs.«01_k».proof.Proof.Sched

@[expose] public section

noncomputable section

namespace Cert.RowsOut

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of the body on device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Repeating a step -/

theorem wp_seqL {ι : Type} (c : Dev nD) (f : ι → KProg F) (S : List ι → sProp 𝕄) (A B : ι → sProp 𝕄)
    (h : ∀ a l, iprop(S (a :: l) ∗ A a) ⊢ wpB c (f a) fun _ => iprop(S l ∗ B a)) :
    ∀ l, iprop(S l ∗ bigSepL l A) ⊢ wpB c (seqL f l) fun _ => iprop(S [] ∗ bigSepL l B)
  | [] => le_wp_ret frame _ Set.univ (⟨⟩ : PUnit) (fun _ => iprop(S [] ∗ bigSepL [] B))
  | a :: l => by
    have ih := wp_seqL c f S A B h l
    rw [bigSepL_cons', bigSepL_cons']
    show _ ⊢ wp frame (wpE (defs₀ (F := F)) 𝒱₀ (c : Thread nD τ) none) Set.univ (f a >>= fun _ => seqL f l) _
    rw [wp_bind]
    have h1 : iprop(S (a :: l) ∗ A a ∗ bigSepL l A) ⊢ wpB c (f a) fun _ => iprop((S l ∗ B a) ∗ bigSepL l A) := by
      refine BIBase.Entails.trans ?_ (wp_frame_r frame _ Set.univ)
      iintro ⟨HS, HA, Hl⟩
      isplitr [Hl]
      · iapply (h a l)
        isplitl [HS]; · iexact HS
        iexact HA
      · iexact Hl
    have h2 : iprop((S l ∗ B a) ∗ bigSepL l A) ⊢ wpB c (seqL f l) fun _ => iprop(S [] ∗ B a ∗ bigSepL l B) := by
      refine BIBase.Entails.trans (Q := iprop(wpB c (seqL f l) (fun _ => iprop(S [] ∗ bigSepL l B)) ∗ B a)) ?_
        ((wp_frame_r frame _ Set.univ).trans (wp_mono frame _ Set.univ fun _ => ?_))
      · iintro ⟨⟨HS, HB⟩, Hl⟩
        isplitr [HB]
        · iapply ih
          isplitl [HS]; · iexact HS
          iexact Hl
        · iexact HB
      · iintro ⟨⟨HS, Hl⟩, HB⟩
        isplitl [HS]; · iexact HS
        isplitl [HB]; · iexact HB
        iexact Hl
    exact h1.trans (wp_mono frame _ Set.univ fun _ => h2)

/-- The same with a program after it. -/
theorem wp_seqL_then {ι : Type} (c : Dev nD) (f : ι → KProg F) (S : List ι → sProp 𝕄) (A B : ι → sProp 𝕄)
    (h : ∀ a l, iprop(S (a :: l) ∗ A a) ⊢ wpB c (f a) fun _ => iprop(S l ∗ B a)) (l : List ι)
    (k : PUnit → KProg F) (Q : PUnit → sProp 𝕄) :
    iprop(S l ∗ bigSepL l A)
      ⊢ iprop(((S [] ∗ bigSepL l B) -∗ wpB c (k ⟨⟩) Q) -∗ wpB c (seqL f l >>= k) Q) := by
  show _ ⊢ iprop(_ -∗ wp frame (wpE (defs₀ (F := F)) 𝒱₀ (c : Thread nD τ) none) Set.univ (seqL f l >>= k) Q)
  rw [wp_bind]
  refine (wp_seqL c f S A B h l).trans ((wp_wand frame _ Set.univ
    (Q' := fun _ => wp frame (wpE (defs₀ (F := F)) 𝒱₀ (c : Thread nD τ) none) Set.univ (k ⟨⟩) Q)).trans ?_)
  iintro H Hk
  iapply H
  iintro %u HS
  iapply Hk
  iexact HS

/-! ## The steps -/

variable (P : Dev nD → FVec F S32x1024 .f32) (K : Dev nD × CK → ℕ) (c : Dev nD)

/-- Owing `O`, whatever has been waited for. -/
def owing (O : CellTallies nD τ sig Unit) : sProp 𝕄 := iprop(∃ W, owes (c : Thread nD τ) O W)

/-- The signal to the device `r + 1` places on hands over the rows that device fills here. -/
theorem signal_step (r : Fin 31) (l : List (Fin 31)) :
    iprop((records P K ∗ owing c (oweBar c (r :: l))) ∗ dutyTok ER (barCell (peer c r)) 0 r ∗ rowsAny c (peer c r))
      ⊢ wpB c (signalStep (F := F) c r) fun _ => iprop((records P K ∗ owing c (oweBar c l)) ∗ emp) := by
  unfold signalStep owing
  rw [peerW_eq]
  simp only [semSignalWord, Prog.lift, Prog.bind_op, Prog.bind_ret, Prog.pure_eq_ret]
  iintro ⟨⟨#HR, ⟨%W, HO⟩⟩, Htok, Hrows⟩
  iapply (Rounds.wp_signal 𝒱₀ ER (sched P) (c : Thread nD τ) none (dst := (peer c r : Thread nD τ)) (κ := K (peer c r, .inl ()))
      (d := r) (by rw [duties_bar]; exact Finset.mem_univ _) ((amount_bar P (peer c r) r).trans (by decide)) () (oweBar c l) rfl)
    $$ [HO Htok Hrows]
  · isplitr; · iapply (inv_at P K (peer c r, .inl ())); iexact HR
    isplitl [HO]; · iexact HO
    isplitl [Htok]; · iexact Htok
    isplitl [Hrows]; · rw [payload_bar_peer]; iexact Hrows
    iapply (reached_at P K (peer c r, .inl ())); iexact HR
  iintro HO
  rw [wp_ret]; imodintro
  isplitl
  · isplitr; · iexact HR
    iexists W; iexact HO
  · iempintro

/-- The store of a piece. -/
theorem store_step (b : Fin 32) (l : List (Fin 32)) :
    iprop(emp ∗ pieceAny c b)
      ⊢ wpB c (storeStep yM (P c) b) fun _ => iprop(emp ∗ pieceAt P c b) := by
  unfold storeStep pieceAny pieceAt
  simp only [Prog.lift, Prog.bind_op, Prog.bind_ret, Prog.pure_eq_ret]
  iintro ⟨-, ⟨%f, Hy⟩⟩
  iapply (wp_load_rect 𝒱₀ (c : Thread nD τ) none Set.univ (m := yM) (r := pieceRect b)
    (by rw [set_pieceRect])) $$ Hy
  iintro Hy
  iapply (wp_store 𝒱₀ (c : Thread nD τ) none Set.univ (m := yM) (r := pieceRect b) (Mk := Finset.univ)
    (by rw [View.setOn_univ, set_pieceRect])) $$ Hy
  iintro Hy
  rw [wp_ret]; imodintro
  isplitr; · iempintro
  iapply (Entails.of_eq (pointsTo_congr (write_piece b (P c) f))) $$ Hy

/-- The rule of the start of a transfer, at the device `n` that is `r + 1` places on. -/
theorem send_rule (r : Fin 31) (n : Dev nD) (hn : n = peer c r) (f : Buf (Elt F) ((peer c r : Thread nD τ).loc cc0_stg2_0))
    (O : CellTallies nD τ sig Unit) (W : Waits sig Unit)
    {hsc : (rowsOf oM c : Memref sig (Dev.tc n : Thread nD τ).2.kind .vmem S32x32 .f32).view.ref.isScScratch = false}
    {hsrc : (pieceOf yM c r : Memref sig .tc .vmem S32x32 .f32).view.WordExact}
    {hdst : (rowsOf oM c : Memref sig .tc .vmem S32x32 .f32).view.WordExact}
    {hsem : DmaTarget.Typed .vmem (.dma (semAt recvS r))
      (.remote (Dev.tc n : Thread nD τ) (rowsOf oM c : Memref sig .tc .vmem S32x32 .f32) (.dma (semAt sendS r)) hsc)}
    {α : Type} {Q : α → sProp 𝕄} {k : PUnit → Prog (TpuEff nD τ sig (Elt F) Λ₀ .tc) α} :
    iprop(cellInv ER (sched P) (K (c, .inr (.inl r))) (sendCell c r)
        ∗ cellInv ER (sched P) (K (peer c r, .inr (.inr r))) (recvCell (peer c r) r)
        ∗ pieceAt P c (peer c r) ∗ (((peer c r : Thread nD τ).loc cc0_stg2_0) ↦[rowSet c]{fullShare} f)
        ∗ owes (c : Thread nD τ) (O + tallyAt (recvCell (peer c r) r) () N) W
        ∗ dutyTok ER (sendCell c r) 0 0 ∗ reached ER (sendCell c r) 0
        ∗ dutyTok ER (recvCell (peer c r) r) 0 0 ∗ reached ER (recvCell (peer c r) r) 0)
      ⊢ iprop(((cred (tallyAt (sendCell c r) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (pieceOf yM c r) (.remote (Dev.tc n : Thread nD τ) (rowsOf oM c) (.dma (semAt sendS r)) hsc)
              (.dma (semAt recvS r)) hsrc hdst hsem) k) Q) := by
  subst hn
  have hS : (((c : Thread nD τ).loc cc0_scratch0) ↦[(pieceOf yM c r).view.set]{fullShare} (cut (P c) : Buf (Elt F) _) : sProp 𝕄)
      = pieceAt P c (peer c r) := by rw [set_pieceOf]; rfl
  have hD (g : Buf (Elt F) ((peer c r : Thread nD τ).loc cc0_stg2_0)) :
      (((peer c r : Thread nD τ).loc cc0_stg2_0) ↦[(rowsOf oM c).view.set]{fullShare} g : sProp 𝕄)
        = (((peer c r : Thread nD τ).loc cc0_stg2_0) ↦[rowSet c]{fullShare} g) := by rw [set_rowsOf]
  have hN : (rowsOf oM c : Memref sig (peer c r : Thread nD τ).2.kind .vmem S32x32 .f32).view.amount (.dma (semAt recvS r)) = N :=
    credit_rows c
  have h₁ : (((c : Thread nD τ).loc cc0_scratch0) ↦[(pieceOf yM c r).view.set]{fullShare} (cut (P c) : Buf (Elt F) _) : sProp 𝕄)
      ⊢ (sched P).payload (sendCell c r) 0 0 := Entails.of_eq (hS.trans (payload_send P c r 0).symm)
  have h₂ : (((peer c r : Thread nD τ).loc cc0_stg2_0) ↦[(rowsOf oM c).view.set]{fullShare}
        (rowsOf oM c).view.write (Elt F) f ((pieceOf yM c r).view.read (Elt F) (cut (P c))) Finset.univ : sProp 𝕄)
      ⊢ (sched P).payload (recvCell (peer c r) r) 0 0 :=
    Entails.of_eq (((hD _).trans (pointsTo_congr (write_rows P c r f))).trans (payload_recv_peer P c r 0).symm)
  rw [← hS, ← hD f]
  exact Rounds.wp_send_pointsTo 𝒱₀ ER (sched P) (c : Thread nD τ) none (κ₁ := K (c, .inr (.inl r))) (κ₂ := K (peer c r, .inr (.inr r)))
    (c' := (peer c r : Thread nD τ)) (src := pieceOf yM c r) (dst := rowsOf oM c)
    (sS := .dma (semAt sendS r)) (sem := .dma (semAt recvS r))
    (r₁ := 0) (r₂ := 0) (d₁ := 0) (d₂ := 0) (fs := cut (P c)) (fd := f)
    (by rw [duties_send]; exact Finset.mem_singleton_self _) (by rw [duties_recv]; exact Finset.mem_singleton_self _)
    () () N hN (amount_send P c r 0) (amount_recv P (peer c r) r 0) O rfl (W := W) h₁ h₂

theorem send_step (r : Fin 31) (l : List (Fin 31)) :
    iprop((records P K ∗ owing c (oweRecv c (r :: l)))
        ∗ pieceAt P c (peer c r) ∗ rowsAny (peer c r) c ∗ dutyTok ER (sendCell c r) 0 0 ∗ dutyTok ER (recvCell (peer c r) r) 0 0)
      ⊢ wpB c (sendStep oM yM sendS recvS c r)
          fun _ => iprop((records P K ∗ owing c (oweRecv c l)) ∗ cred (tallyAt (sendCell c r) () N)) := by
  unfold sendStep owing rowsAny
  simp only [Prog.lift]
  iintro ⟨⟨#HR, ⟨%W, HO⟩⟩, Hy, ⟨%f, Hrows⟩, Htok, Htok'⟩
  iapply (send_rule P K c r (peerW c r) (peerW_eq c r) f (oweRecv c l) W) $$ [HO Hy Hrows Htok Htok']
  · isplitr; · iapply (inv_at P K (c, .inr (.inl r))); iexact HR
    isplitr; · iapply (inv_at P K (peer c r, .inr (.inr r))); iexact HR
    isplitl [Hy]; · iexact Hy
    isplitl [Hrows]; · iexact Hrows
    isplitl [HO]; · iexact HO
    isplitl [Htok]; · iexact Htok
    isplitr; · iapply (reached_at P K (c, .inr (.inl r))); iexact HR
    isplitl [Htok']; · iexact Htok'
    iapply (reached_at P K (peer c r, .inr (.inr r))); iexact HR
  iintro ⟨Hc, HO⟩
  rw [wp_ret]; imodintro
  isplitl [HO]
  · isplitr; · iexact HR
    iexists W; iexact HO
  · iexact Hc

/-- The two waits of index `r`: the piece comes back, and the rows that arrived on this index are here; both cells are
    done with. -/
theorem wait_step (r : Fin 31) (l : List (Fin 31)) :
    iprop((records P K ∗ owing c 0)
        ∗ cred (tallyAt (sendCell c r) () N) ∗ cred (tallyAt (recvCell c r) () N)
        ∗ atPos ER (sendCell c r) 0 ∅ 0 ∗ atPos ER (recvCell c r) 0 ∅ 0)
      ⊢ wpB c (waitStep oM yM sendS recvS c r)
          fun _ => iprop((records P K ∗ owing c 0)
            ∗ (semVal (sendCell c r) 0 ∗ semVal (recvCell c r) 0) ∗ pieceAt P c (peer c r) ∗ rowsAt P c (peer c (rev r))) := by
  unfold waitStep owing
  simp only [Prog.lift, Prog.bind_op, Prog.bind_ret, Prog.pure_eq_ret]
  iintro ⟨⟨#HR, ⟨%W, HO⟩⟩, HcS, HcV, HaS, HaV⟩
  iapply (Rounds.wp_wait_rest_token 𝒱₀ ER (sched P) (c : Thread nD τ) none (κ := K (c, .inr (.inl r)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iapply (inv_at P K (c, .inr (.inl r))); iexact HR
    isplitl [HcS]; · iexact HcS
    isplitl [HO]; · iexact HO
    isplitr; · rw [MayWait_zero]; iempintro
    iexact HaS
  iintro ⟨HO, HaS, -, Hp⟩
  ihave Hy := (Entails.of_eq (rest_send P c r)) $$ Hp
  iapply (Rounds.wp_wait_rest_token 𝒱₀ ER (sched P) (c : Thread nD τ) none (κ := K (c, .inr (.inr r)))
      (wpE_waitDma2_eq 𝒱₀ (c : Thread nD τ) none Set.univ) (Set.mem_univ _) () (O := 0)
      (W := insert (SemLoc.dma (semAt sendS r), ()) W) (R := 0) (m := 0) (T := ∅)
      (by rw [Nat.zero_add, expect_recv])) $$ [HcV HO HaV]
  · isplitr; · iapply (inv_at P K (c, .inr (.inr r))); iexact HR
    isplitl [HcV]; · iexact HcV
    isplitl [HO]; · iexact HO
    isplitr; · rw [MayWait_zero]; iempintro
    iexact HaV
  iintro ⟨HO, HaV, -, Hp⟩
  ihave Ho := (Entails.of_eq (rest_recv P c r)) $$ Hp
  imod (Rounds.cell_close ER (sched P) (Set.mem_univ (K (c, .inr (.inl r)))) (fun h => h) (R := 0 + 1) (duties_later P (sendCell c r))) $$ [HaS] with HzS
  · isplitr; · iapply (inv_at P K (c, .inr (.inl r))); iexact HR
    iexact HaS
  imod (Rounds.cell_close ER (sched P) (Set.mem_univ (K (c, .inr (.inr r)))) (fun h => h) (R := 0 + 1) (duties_later P (recvCell c r))) $$ [HaV] with HzV
  · isplitr; · iapply (inv_at P K (c, .inr (.inr r))); iexact HR
    iexact HaV
  rw [wp_ret]; imodintro
  isplitl [HO]
  · isplitr; · iexact HR
    iexists (insert (SemLoc.dma (semAt recvS r), ()) (insert (SemLoc.dma (semAt sendS r), ()) W)); iexact HO
  isplitl [HzS HzV]
  · isplitl [HzS] <;> iassumption
  isplitl [Hy]; · iexact Hy
  iexact Ho

end Cert.RowsOut

end
-- ==== Proof.Body.lean ====
/-
The whole body on one device.

It starts with its two inputs, the buffer for the product, the out buffer, its place in the schedule and the right to pay
what it pays; it ends with the gathered rows in the out buffer and every cell of its own closed.
-/
module

public import proofs.«01_k».proof.Proof.Steps

@[expose] public section

noncomputable section

namespace Cert.RowsOut

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One for each index -/

omit [FloatOps F] in
theorem all_eq {n : ℕ} (Φ : Fin n → sProp 𝕄) : bigSep Finset.univ Φ = bigSepL (List.finRange n) Φ :=
  bigSep_univ_eq_bigSepL (List.finRange n) (by ext; simp) (List.nodup_finRange n) Φ

/-- A repetition over all indices, with a program after it. -/
theorem wp_all {n : ℕ} (c : Dev nD) (f : Fin n → KProg F) (S : List (Fin n) → sProp 𝕄) (A B : Fin n → sProp 𝕄)
    (h : ∀ a l, iprop(S (a :: l) ∗ A a) ⊢ wpB c (f a) fun _ => iprop(S l ∗ B a))
    (k : PUnit → KProg F) (Q : PUnit → sProp 𝕄) :
    iprop(S (List.finRange n) ∗ bigSep Finset.univ A)
      ⊢ iprop(((S [] ∗ bigSep Finset.univ B) -∗ wpB c (k ⟨⟩) Q) -∗ wpB c (seqL f (List.finRange n) >>= k) Q) := by
  rw [all_eq, all_eq]
  exact wp_seqL_then c f S A B h (List.finRange n) k Q

theorem seqL_last {n : ℕ} (f : Fin n → KProg F) :
    seqL f (List.finRange n) = (seqL f (List.finRange n) >>= fun _ => .ret ⟨⟩) := (Prog.bind_pure _).symm

omit [FloatOps F] in
/-- One for each device: the device's own, and one for each other device. -/
theorem all_around (c : Dev nD) (Φ : Dev nD → sProp 𝕄) :
    bigSep Finset.univ Φ = iprop(Φ c ∗ bigSep Finset.univ fun r : Fin 31 => Φ (peer c r)) := by
  rw [bigSep_univ_at Φ c]
  have h : (Finset.univ.erase c : Finset (Dev nD)) = Finset.univ.map ⟨peer c, peer_inj c⟩ := by
    ext e
    simp only [Finset.mem_erase, Finset.mem_univ, and_true, Finset.mem_map, true_and, Function.Embedding.coeFn_mk]
    exact ⟨fun he => exists_peer c e he, fun ⟨r, hr⟩ => hr ▸ peer_ne c r⟩
  rw [h, bigSep_map]; rfl

/-! ## The two buffers in parts -/

variable (P : Dev nD → FVec F S32x1024 .f32) (K : Dev nD × CK → ℕ) (c : Dev nD)

omit [FloatOps F] in
theorem rowsAny_intro (s : Dev nD) (f : Buf (Elt F) ((c : Thread nD τ).loc cc0_stg2_0)) :
    (((c : Thread nD τ).loc cc0_stg2_0) ↦[rowSet s]{fullShare} f : sProp 𝕄) ⊢ rowsAny c s := by
  unfold rowsAny
  iintro H
  iexists f; iexact H
omit [FloatOps F] in
theorem pieceAny_intro (b : Dev nD) (f : Buf (Elt F) ((c : Thread nD τ).loc cc0_scratch0)) :
    (((c : Thread nD τ).loc cc0_scratch0) ↦[pieceSet b]{fullShare} f : sProp 𝕄) ⊢ pieceAny c b := by
  unfold pieceAny
  iintro H
  iexists f; iexact H

omit [FloatOps F] in
theorem rows_blocks (f : Buf (Elt F) ((c : Thread nD τ).loc cc0_stg2_0)) :
    (((c : Thread nD τ).loc cc0_stg2_0) ↦{fullShare} f : sProp 𝕄)
      = bigSep Finset.univ fun s : Dev nD => ((c : Thread nD τ).loc cc0_stg2_0) ↦[rowSet s]{fullShare} f :=
  Ring.pointsTo_blocks (ℓ := (c : Thread nD τ).loc cc0_stg2_0) (fun s : Dev nD => rowSet s) rowSet_disjoint
    (Finset.eq_univ_iff_forall.mpr fun i => Finset.mem_biUnion.mpr (Finset.mem_biUnion.mp (Finset.eq_univ_iff_forall.mp rowSet_cover i))) f
omit [FloatOps F] in
theorem pieces_blocks (f : Buf (Elt F) ((c : Thread nD τ).loc cc0_scratch0)) :
    (((c : Thread nD τ).loc cc0_scratch0) ↦{fullShare} f : sProp 𝕄)
      = bigSep Finset.univ fun b : Dev nD => ((c : Thread nD τ).loc cc0_scratch0) ↦[pieceSet b]{fullShare} f :=
  Ring.pointsTo_blocks (ℓ := (c : Thread nD τ).loc cc0_scratch0) (fun b : Dev nD => pieceSet b) pieceSet_disjoint
    (Finset.eq_univ_iff_forall.mpr fun i => Finset.mem_biUnion.mpr (Finset.mem_biUnion.mp (Finset.eq_univ_iff_forall.mp pieceSet_cover i))) f

omit [FloatOps F] in
/-- The out buffer at any contents is the rows the device fills itself and the rows each other device fills. -/
theorem rows_split (f : Buf (Elt F) ((c : Thread nD τ).loc cc0_stg2_0)) :
    (((c : Thread nD τ).loc cc0_stg2_0) ↦{fullShare} f : sProp 𝕄)
      ⊢ iprop(rowsAny c c ∗ bigSep Finset.univ fun r : Fin 31 => rowsAny c (peer c r)) := by
  rw [← all_around c (fun s => rowsAny (F := F) c s), rows_blocks]
  exact bigSep_mono fun s _ => rowsAny_intro c s f

omit [FloatOps F] in
theorem pieces_split (f : Buf (Elt F) ((c : Thread nD τ).loc cc0_scratch0)) :
    (((c : Thread nD τ).loc cc0_scratch0) ↦{fullShare} f : sProp 𝕄) ⊢ bigSep Finset.univ fun b : Fin 32 => pieceAny c b := by
  rw [pieces_blocks]
  exact bigSep_mono fun b _ => pieceAny_intro c b f

omit [FloatOps F] in
theorem pieces_around : (bigSep Finset.univ fun b : Fin 32 => pieceAt (F := F) P c b : sProp 𝕄)
    = iprop(pieceAt P c c ∗ bigSep Finset.univ fun r : Fin 31 => pieceAt P c (peer c r)) := all_around c fun b => pieceAt P c b

omit [FloatOps F] in
theorem pieces_join : iprop(pieceAt (F := F) P c c ∗ bigSep Finset.univ fun r : Fin 31 => pieceAt (F := F) P c (peer c r))
    = (((c : Thread nD τ).loc cc0_scratch0) ↦{fullShare} cut (P c) : sProp 𝕄) := by
  rw [← pieces_around]
  unfold pieceAt; exact (pieces_blocks c (cut (P c))).symm

omit [FloatOps F] in
theorem rows_join : iprop(rowsAt (F := F) P c c ∗ bigSep Finset.univ fun r : Fin 31 => rowsAt (F := F) P c (peer c (rev r)))
    = (((c : Thread nD τ).loc cc0_stg2_0) ↦{fullShare} gather P c : sProp 𝕄) := by
  rw [show (bigSep Finset.univ fun r : Fin 31 => rowsAt (F := F) P c (peer c (rev r)) : sProp 𝕄)
      = bigSep Finset.univ fun r : Fin 31 => rowsAt (F := F) P c (peer c r) from
      (bigSep_univ_equiv revEquiv (fun r : Fin 31 => (rowsAt (F := F) P c (peer c r) : sProp 𝕄))).symm,
    ← all_around c (fun s => rowsAt (F := F) P c s)]
  unfold rowsAt; exact (rows_blocks c (gather P c)).symm

/-! ## What the body starts from and leaves -/

omit [FloatOps F] in
theorem hz2 : (![0, 0] : Fin 2 → Nat) = fun _ => 0 := funext fun a => by fin_cases a <;> rfl

omit [FloatOps F] in
theorem read_xM (f : FVec F S32x1024 .bf16) :
    xM.view.readAt (Elt F) (Rect.unit (s := S32x1024) ![0, 0] S32x1024.size inb_S32x1024_S32x1024_0_0).toLoadRect f = f :=
  Memref.readAt_unit_zero (Elt F) cc0_stg0_0 hz2 _ f
omit [FloatOps F] in
theorem read_wM (f : FVec F S1024x1024 .bf16) :
    wM.view.readAt (Elt F) (Rect.unit (s := S1024x1024) ![0, 0] S1024x1024.size inb_S1024x1024_S1024x1024_0_0).toLoadRect f = f :=
  Memref.readAt_unit_zero (Elt F) cc0_stg1_0 hz2 _ f

/-- The rights to pay: a unit at each other device's barrier, the device's own send cells, the receive cells its transfers
    arrive at. -/
def payToks : sProp 𝕄 :=
  iprop((bigSep Finset.univ fun r : Fin 31 => dutyTok ER (barCell (peer c r)) 0 r)
    ∗ (bigSep Finset.univ fun r : Fin 31 => dutyTok ER (sendCell c r) 0 0)
    ∗ bigSep Finset.univ fun r : Fin 31 => dutyTok ER (recvCell (peer c r) r) 0 0)

/-- One of each of the device's cells. -/
def eachCell (Φ : GSem nD τ sig → sProp 𝕄) : sProp 𝕄 :=
  iprop(Φ (barCell c) ∗ (bigSep Finset.univ fun r : Fin 31 => Φ (sendCell c r)) ∗ bigSep Finset.univ fun r : Fin 31 => Φ (recvCell c r))

/-- Its place in the schedule. -/
def place : sProp 𝕄 := iprop(records P K ∗ eachCell c (fun g => atPos ER g 0 ∅ 0) ∗ payToks c)

/-- What it may wait for at its barrier and at its receives. -/
def credits : sProp 𝕄 :=
  iprop(cred (tallyAt (barCell c) () 31) ∗ bigSep Finset.univ fun r : Fin 31 => cred (tallyAt (recvCell c r) () N))

theorem body_loops (xv : FVec F S32x1024 .bf16) (wv : FVec F S1024x1024 .bf16) (hP : P c = k0_pay1 xv wv) (Q : PUnit → sProp 𝕄) :
    iprop((place P K c ∗ credits c ∗ levAts L lv ∗ owing c (O₀ c)
        ∗ (((c : Thread nD τ).loc cc0_stg0_0) ↦{fullShare} xv) ∗ (((c : Thread nD τ).loc cc0_stg1_0) ↦{fullShare} wv)
        ∗ (∃ f, ((c : Thread nD τ).loc cc0_stg2_0) ↦{fullShare} f) ∗ (∃ f, ((c : Thread nD τ).loc cc0_scratch0) ↦{fullShare} f))
      ∗ ((eachCell c (fun g => semVal g 0) ∗ owing c 0
        ∗ (((c : Thread nD τ).loc cc0_stg0_0) ↦{fullShare} xv) ∗ (((c : Thread nD τ).loc cc0_stg1_0) ↦{fullShare} wv)
        ∗ (((c : Thread nD τ).loc cc0_stg2_0) ↦{fullShare} gather P c) ∗ (((c : Thread nD τ).loc cc0_scratch0) ↦{fullShare} cut (P c))) -∗ Q ⟨⟩))
      ⊢ wpB c (bodyLoops xM wM oM yM sendS recvS) Q := by
  unfold bodyLoops ownStep
  simp only [semWaitWord, Prog.lift, Prog.bind_op, Prog.bind_ret, Prog.pure_eq_ret, wp_deviceId]
  unfold place payToks eachCell credits
  iintro ⟨⟨⟨#HR, ⟨HaB, HaS, HaV⟩, HtB, HtS, HtV⟩, ⟨HcB, HcV⟩, #Hlev, HO, Hx, Hw, ⟨%fo, Hout⟩, ⟨%fy, Hy⟩⟩, Hk⟩
  ihave Hrows := (rows_split c fo) $$ Hout
  icases Hrows with ⟨Hown, Hrows⟩
  -- the signals: the rows the others fill go out with them
  iapply (wp_all c (signalStep c) (fun l => iprop(records P K ∗ owing c (oweBar c l)))
    (fun r => iprop(dutyTok ER (barCell (peer c r)) 0 r ∗ rowsAny c (peer c r))) (fun _ => iprop(emp)) (signal_step P K c)) $$ [HO HtB Hrows]
  · isplitl [HO]
    · isplitr; · iexact HR
      iexact HO
    · rw [bigSep_sep']
      isplitl [HtB] <;> iassumption
  iintro ⟨⟨-, HO⟩, -⟩
  -- the product
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [show k0_pay1 (xM.view.readAt (Elt F) (Rect.unit (s := S32x1024) ![0, 0] S32x1024.size inb_S32x1024_S32x1024_0_0).toLoadRect xv)
      (wM.view.readAt (Elt F) (Rect.unit (s := S1024x1024) ![0, 0] S1024x1024.size inb_S1024x1024_S1024x1024_0_0).toLoadRect wv) = P c from by
    rw [hP]; exact congrArg₂ k0_pay1 (read_xM xv) (read_wM wv)]
  -- its pieces
  ihave Hy := (pieces_split c fy) $$ Hy
  iapply (wp_all c (storeStep yM (P c)) (fun _ => iprop(emp)) (fun b => pieceAny c b) (fun b => pieceAt P c b) (store_step P c)) $$ [Hy]
  · isplitr; · iempintro
    iexact Hy
  iintro ⟨-, Hy⟩
  ihave Hy := (Entails.of_eq (pieces_around P c)) $$ Hy
  icases Hy with ⟨Hyc, Hys⟩
  -- its own rows
  unfold rowsAny
  icases Hown with ⟨%fr, Hown⟩
  unfold pieceAt
  iapply (wp_load_rect 𝒱₀ (c : Thread nD τ) none Set.univ (m := yM) (r := ownSrc c) (by rw [set_ownSrc])) $$ Hyc; iintro Hyc
  iapply (wp_load_rect 𝒱₀ (c : Thread nD τ) none Set.univ (m := oM) (r := ownDst c) (by rw [set_ownDst])) $$ Hown; iintro Hown
  iapply (wp_store 𝒱₀ (c : Thread nD τ) none Set.univ (m := oM) (r := ownDst c) (Mk := Finset.univ)
    (by rw [View.setOn_univ, set_ownDst])) $$ Hown
  iintro Hown
  ihave Hown := (Entails.of_eq (pointsTo_congr (write_own P c fr))) $$ Hown
  -- the barrier: the others' rows come in
  unfold owing
  icases HO with ⟨%W, HO⟩
  iapply (Rounds.wp_wait_rest_token 𝒱₀ ER (sched P) (c : Thread nD τ) none (κ := K (c, .inl ()))
      (wpE_semWait_eq 𝒱₀ (c : Thread nD τ) none Set.univ) (Set.mem_univ _) () (O := oweRecv c (List.finRange 31)) (W := W) (R := 0) (m := 0) (T := ∅)
      (by rw [expect_bar]; decide)) $$ [HcB HO HaB]
  · isplitr; · iapply (inv_at P K (c, .inl ())); iexact HR
    isplitl [HcB]; · iexact HcB
    isplitl [HO]; · iexact HO
    isplitr; · iapply (mayWait_bar c); iexact Hlev
    iexact HaB
  iintro ⟨HO, HaB, -, Hp⟩
  ihave Hrows := (Entails.of_eq (rest_bar P c)) $$ Hp
  -- the transfers
  iapply (wp_all c (sendStep oM yM sendS recvS c) (fun l => iprop(records P K ∗ owing c (oweRecv c l)))
    (fun r => iprop(pieceAt P c (peer c r) ∗ rowsAny (peer c r) c ∗ dutyTok ER (sendCell c r) 0 0 ∗ dutyTok ER (recvCell (peer c r) r) 0 0))
    (fun r => cred (tallyAt (sendCell c r) () N)) (send_step P K c)) $$ [HO Hys Hrows HtS HtV]
  · isplitl [HO]
    · isplitr; · iexact HR
      unfold owing; iexists _; iexact HO
    · rw [bigSep_sep', bigSep_sep', bigSep_sep']
      isplitl [Hys]; · iexact Hys
      isplitl [Hrows]; · iexact Hrows
      isplitl [HtS] <;> iassumption
  iintro ⟨⟨-, HO⟩, HcS⟩
  -- and the waits
  rw [seqL_last]
  iapply (wp_all c (waitStep oM yM sendS recvS c) (fun _ => iprop(records P K ∗ owing c 0))
    (fun r => iprop(cred (tallyAt (sendCell c r) () N) ∗ cred (tallyAt (recvCell c r) () N)
      ∗ atPos ER (sendCell c r) 0 ∅ 0 ∗ atPos ER (recvCell c r) 0 ∅ 0))
    (fun r => iprop((semVal (sendCell c r) 0 ∗ semVal (recvCell c r) 0) ∗ pieceAt P c (peer c r) ∗ rowsAt P c (peer c (rev r))))
    (wait_step P K c)) $$ [HO HcS HcV HaS HaV]
  · isplitl [HO]
    · isplitr; · iexact HR
      iexact HO
    · rw [bigSep_sep', bigSep_sep', bigSep_sep']
      isplitl [HcS]; · iexact HcS
      isplitl [HcV]; · iexact HcV
      isplitl [HaS] <;> iassumption
  rw [bigSep_sep', bigSep_sep', bigSep_sep']
  iintro ⟨⟨-, HO⟩, ⟨HzS, HzV⟩, Hys, Hrows⟩
  imod (Rounds.cell_close ER (sched P) (Set.mem_univ (K (c, .inl ()))) (fun h => h) (R := 0 + 1) (duties_later P (barCell c))) $$ [HaB] with HzB
  · isplitr; · iapply (inv_at P K (c, .inl ())); iexact HR
    iexact HaB
  rw [wp_ret]; imodintro
  iapply Hk
  isplitl [HzB HzS HzV]
  · isplitl [HzB]; · iexact HzB
    isplitl [HzS] <;> iassumption
  isplitl [HO]; · unfold owing; iexact HO
  isplitl [Hx]; · iexact Hx
  isplitl [Hw]; · iexact Hw
  isplitl [Hown Hrows]
  · rw [← rows_join]
    isplitl [Hown]; · unfold rowsAt; iexact Hown
    iexact Hrows
  · rw [← pieces_join]
    isplitl [Hyc]; · unfold pieceAt; iexact Hyc
    iexact Hys

end Cert.RowsOut

end
-- ==== Proof.Deal.lean ====
/-
What the launch deals to the devices.

Every device's cells and duties are made with the device itself. The duties are then dealt to those who pay them: of each
other device the duty at its barrier and the duty at the receive cell a transfer to it arrives at. A device is credited at
its barrier with a unit from each other device, and at each of its receive cells with one transfer.
-/
module

public import proofs.«01_k».proof.Proof.Body

@[expose] public section

noncomputable section

namespace Cert.RowsOut

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and duties as made -/

/-- A device's duties: at its barrier, at its sends, at its receives. -/
abbrev TK : Type := Fin 31 ⊕ (Fin 31 ⊕ Fin 31)

/-- The cell and the name of a duty. -/
def dutyAt : TK → CK × Fin 31
  | .inl d => (.inl (), d)
  | .inr k => (.inr k, 0)
theorem dutyAt_injective : Function.Injective dutyAt := by
  rintro (d | k) (d' | k') h
  · exact congrArg Sum.inl (congrArg Prod.snd h)
  · exact absurd (congrArg Prod.fst h) (fun h => by cases h)
  · exact absurd (congrArg Prod.fst h) (fun h => by cases h)
  · exact congrArg Sum.inr (Sum.inr_injective (congrArg Prod.fst h))

def tokOf (ck : Dev nD × TK) : GSem nD τ sig × ℕ × Fin 31 := (kcell (ck.1, (dutyAt ck.2).1), 0, (dutyAt ck.2).2)
theorem tokOf_injective : Function.Injective tokOf := by
  rintro ⟨c, k⟩ ⟨c', k'⟩ h
  have h1 : (c, (dutyAt k).1) = (c', (dutyAt k').1) := kcell_injective (congrArg Prod.fst h)
  have h2 : (dutyAt k).2 = (dutyAt k').2 := congrArg (fun x : GSem nD τ sig × ℕ × Fin 31 => x.2.2) h
  have h3 : dutyAt k = dutyAt k' := Prod.ext (congrArg (fun x : Dev nD × CK => x.2) h1) h2
  exact Prod.ext (congrArg (fun x : Dev nD × CK => x.1) h1) (dutyAt_injective h3)

def allCells : Finset (GSem nD τ sig) := Finset.univ.map ⟨kcell, kcell_injective⟩
def allToks : Finset (GSem nD τ sig × ℕ × Fin 31) := Finset.univ.map ⟨tokOf, tokOf_injective⟩

variable (P : Dev nD → FVec F S32x1024 .f32)

/-- The duties at device `c`'s own cells. -/
def toks (c : Dev nD) : sProp 𝕄 :=
  iprop((bigSep Finset.univ fun d : Fin 31 => dutyTok ER (barCell c) 0 d)
    ∗ (bigSep Finset.univ fun r : Fin 31 => dutyTok ER (sendCell c r) 0 0)
    ∗ bigSep Finset.univ fun r : Fin 31 => dutyTok ER (recvCell c r) 0 0)

/-- What is made with device `c`. -/
def G (c : Dev nD) : sProp 𝕄 :=
  iprop((bigSep Finset.univ fun k : CK => roundState ER (sched P) (kcell (c, k)) 0)
    ∗ (bigSep Finset.univ fun k : CK => iprop(atPos ER (kcell (c, k)) 0 ∅ 0 ∗ reached ER (kcell (c, k)) 0)) ∗ toks c)

/-- What it holds once the duties are dealt. -/
def G' (c : Dev nD) : sProp 𝕄 := iprop(∃ K, place P K c)

omit [FloatOps F] in
/-- One for each of a device's cells, listed. -/
theorem eachCell_eq (c : Dev nD) (Φ : GSem nD τ sig → sProp 𝕄) :
    (bigSep Finset.univ fun k : CK => Φ (kcell (c, k))) = eachCell c Φ := by
  unfold eachCell
  rw [bigSep_univ_sum, bigSep_univ_sum, Finset.univ_unique, bigSep_singleton]
  rfl

omit [FloatOps F] in
theorem toks_eq : (bigSep allToks fun x => (dutyTok ER x.1 x.2.1 x.2.2 : sProp 𝕄)) = bigSep Finset.univ fun c : Dev nD => toks c := by
  unfold allToks
  rw [bigSep_map, bigSep_univ_prod]
  refine bigSep_congr fun c _ => ?_
  unfold toks
  rw [bigSep_univ_sum, bigSep_univ_sum]
  rfl

omit [FloatOps F] in
theorem fund_all : BI.own (ER (initOf allCells allToks)) ⊢ (|==> bigSep Finset.univ (G P) : sProp 𝕄) := by
  have hX (Φ : GSem nD τ sig → sProp 𝕄) :
      bigSep allCells Φ = bigSep Finset.univ fun c : Dev nD => bigSep Finset.univ fun k : CK => Φ (kcell (c, k)) := by
    unfold allCells; rw [bigSep_map, bigSep_univ_prod]; rfl
  iintro HX
  imod (Rounds.fund ER (sched P) allCells allToks) $$ HX with ⟨Hst, Hr, Hat, Htok⟩
  imodintro
  ihave Hst := (Entails.of_eq (hX fun g => roundState ER (sched P) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]
  · isplitl [Hat] <;> iassumption
  iexact Htok

/-! ## Semaphores at zero -/

omit [FloatOps F] in
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] in
/-- The transfer semaphores and the barrier semaphore are the device's cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscopedSems0_eq, bigSep_univ_sum, Finset.univ_unique, bigSep_singleton]
  rfl

/-! ## Dealing the duties -/

/-- Index `r` of a device and the device `r + 1` places on, exchanged. -/
def turn : Dev nD × Fin 31 ≃ Dev nD × Fin 31 where
  toFun x := (peer x.1 x.2, x.2)
  invFun x := (peer x.1 (rev x.2), x.2)
  left_inv x := Prod.ext (peer_peer_rev x.1 x.2) rfl
  right_inv x := Prod.ext (peer_rev x.1 x.2) rfl

omit [FloatOps F] in
theorem turn_eq (Φ : Dev nD → Fin 31 → sProp 𝕄) :
    (bigSep Finset.univ fun c : Dev nD => bigSep Finset.univ fun r : Fin 31 => Φ c r)
      = bigSep Finset.univ fun c : Dev nD => bigSep Finset.univ fun r : Fin 31 => Φ (peer c r) r := by
  rw [← bigSep_univ_prod fun x : Dev nD × Fin 31 => Φ x.1 x.2, bigSep_univ_equiv turn, bigSep_univ_prod]
  rfl

omit [FloatOps F] in
theorem toks_dealt : (bigSep Finset.univ fun c : Dev nD => (toks c : sProp 𝕄)) = bigSep Finset.univ fun c : Dev nD => payToks c := by
  unfold toks payToks
  rw [bigSep_sep', bigSep_sep', bigSep_sep', bigSep_sep', turn_eq fun c r => dutyTok ER (barCell c) 0 r,
    turn_eq fun c r => dutyTok ER (recvCell c r) 0 0]

omit [FloatOps F] in
theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : CK => iprop(∃ κ : ℕ, cellInv ER (sched P) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : CK => semVal (kcell (c, k)) 0) ∗ bigSep Finset.univ fun k : CK => roundState ER (sched P) (kcell (c, k)) 0)
      ⊢ (|={Set.univ}=> bigSep Finset.univ fun k : CK => iprop(∃ κ : ℕ, cellInv ER (sched P) κ (kcell (c, k))) : sProp 𝕄) from by
        rw [← bigSep_sep']
        exact (bigSep_mono fun k _ => (Rounds.body_intro ER (sched P) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
theorem place_intro (K : Dev nD × CK → ℕ) (c : Dev nD) :
    iprop(records P K ∗ eachCell c (fun g => atPos ER g 0 ∅ 0) ∗ payToks c) ⊢ G' P c := by
  unfold G' place
  iintro H
  iexists K; iexact H

omit [FloatOps F] in
/-- What everyone may use goes to each. -/
theorem deal_persistent {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem regroup :
    (bigSep Finset.univ fun c : Dev nD => iprop((bigSep Finset.univ fun k : CK => iprop(∃ κ : ℕ, cellInv ER (sched P) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' P) := by
  rw [bigSep_sep', bigSep_sep', toks_dealt, ← bigSep_univ_prod (fun ck : Dev nD × CK => iprop(∃ κ : ℕ, cellInv ER (sched P) κ (kcell ck))),
    bigSep_congr (s := Finset.univ) (fun (c : Dev nD) _ => bigSep_sep' Finset.univ (fun k : CK => (atPos ER (kcell (c, k)) 0 ∅ 0 : sProp 𝕄))
      (fun k => reached ER (kcell (c, k)) 0)),
    bigSep_sep', ← bigSep_univ_prod (fun ck : Dev nD × CK => (reached ER (kcell ck) 0 : sProp 𝕄)),
    bigSep_congr (s := Finset.univ) (fun (c : Dev nD) _ => eachCell_eq c (fun g => (atPos ER g 0 ∅ 0 : sProp 𝕄)))]
  iintro ⟨HI, ⟨Hat, #HR⟩, Htok⟩
  ihave HK := (BI.bigSep_exists_pi Finset.univ (fun (ck : Dev nD × CK) (κ : ℕ) => (cellInv ER (sched P) κ (kcell ck) : sProp 𝕄))) $$ HI
  icases HK with ⟨%K, #HI⟩
  iapply (deal_persistent (R := records P K) (place_intro P K))
  isplitr
  · unfold records; isplitl; · iexact HI
    iexact HR
  · rw [bigSep_sep']
    isplitl [Hat] <;> iassumption

omit [FloatOps F] in
/-- The step all devices take together before any of them starts. -/
theorem glob : (bigSep Finset.univ fun c => iprop(Pipeline.ownSems0 (Ix := Unit) (Name := ℕ) (U := UU) (Lvl := ℕ) (Val := Elt F) (τ := τ) osem c
      ∗ unscopedSems0 c ∗ G P c) : sProp 𝕄) ⊢ |={Set.univ}=> bigSep Finset.univ (G' P) :=
  ((bigSep_mono fun c _ => core_alloc P c).trans (bigSep_fupd _ _)).trans (BI.fupd_mono (regroup P))

/-! ## The credits -/

theorem bar_eq (c d : Dev nD) (r : Fin 31) : (barCell c = barCell (peer d r)) ↔ d = peer c (rev r) := by
  constructor
  · intro h
    have h1 : (c, (.inl () : CK)) = (peer d r, .inl ()) := kcell_injective h
    rw [show c = peer d r from congrArg Prod.fst h1, peer_peer_rev]
  · rintro rfl; rw [peer_rev]
theorem recv_eq (c d : Dev nD) (r r' : Fin 31) : (recvCell c r = recvCell (peer d r') r') ↔ (r = r' ∧ d = peer c (rev r)) := by
  constructor
  · intro h
    have h1 : (c, (.inr (.inr r) : CK)) = (peer d r', .inr (.inr r')) := kcell_injective h
    have h2 : r = r' := by injection (congrArg Prod.snd h1) with h; injection h
    subst h2
    rw [show c = peer d r from congrArg Prod.fst h1, peer_peer_rev]; exact ⟨rfl, rfl⟩
  · rintro ⟨rfl, rfl⟩; rw [peer_rev]
theorem bar_ne_recv (c d : Dev nD) (r : Fin 31) : barCell c ≠ recvCell d r := fun h => by
  have h1 : (c, (.inl () : CK)) = (d, .inr (.inr r)) := kcell_injective h
  cases congrArg Prod.snd h1

theorem owed_bar (d c : Dev nD) : O₀ d (barCell c) () = ∑ r : Fin 31, if d = peer c (rev r) then 1 else 0 := by
  rw [O₀, oweBar_apply, oweRecv_apply, List.map_congr_left (fun r _ => if_neg (bar_ne_recv c (peer d r) r)),
    ← Fin.sum_univ_def, ← Fin.sum_univ_def, Finset.sum_const_zero, Nat.add_zero]
  exact Finset.sum_congr rfl fun r _ => if_congr (bar_eq c d r) rfl rfl
theorem owed_recv (d c : Dev nD) (r : Fin 31) : O₀ d (recvCell c r) () = if d = peer c (rev r) then N else 0 := by
  rw [O₀, oweBar_apply, oweRecv_apply, List.map_congr_left (fun r' _ => if_neg (bar_ne_recv (peer d r') c r).symm),
    ← Fin.sum_univ_def, ← Fin.sum_univ_def, Finset.sum_const_zero, Nat.zero_add,
    Finset.sum_congr rfl fun r' _ => if_congr (recv_eq c d r r') rfl rfl]
  simp only [ite_and]
  rw [Finset.sum_ite_eq, if_pos (Finset.mem_univ _)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => (Finset.sum_ite_eq' Finset.univ (peer c (rev r)) fun _ => 1).trans (if_pos (Finset.mem_univ _)),
    Finset.sum_const, Finset.card_univ, Fintype.card_fin, smul_eq_mul]
theorem launch_recv (c : Dev nD) (r : Fin 31) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r,
    Finset.sum_ite_eq' Finset.univ (peer c (rev r)) fun _ => N, if_pos (Finset.mem_univ _)]

theorem csem_injective : Function.Injective csem := fun k k' h =>
  Option.some.inj (((kindOf_csem k).symm.trans (congrArg kindOf h)).trans (kindOf_csem k'))

omit [FloatOps F] in
theorem creds (c : Dev nD) : (Pipeline.launchCred O₀ c : sProp 𝕄) ⊢ credits c := by
  have h : (Pipeline.launchCred O₀ c : sProp 𝕄)
      ⊢ bigSep Finset.univ fun k : CK => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]
    exact BI.Entails.refl _
  refine h.trans ?_
  rw [eachCell_eq c (fun g => (cred (tallyOn g (launchCredit (Pipeline.owing O₀) 0 g)) : sProp 𝕄))]
  unfold eachCell credits
  beta_reduce
  rw [launch_bar, bigSep_congr (s := Finset.univ) (fun (r : Fin 31) _ => congrArg cred (launch_recv c r))]
  iintro ⟨HB, -, HV⟩
  isplitl [HB] <;> iassumption

end Cert.RowsOut

end
-- ==== Proof.Run.lean ====
/-
The run of the whole mesh.

At the 32 devices, from any memory with counters at zero, for any float values, every fair execution of the program ends;
then the result array of each device holds the gathered rows of the products, the arguments are unchanged and every
semaphore counter is zero.
-/
module

public import proofs.«01_k».proof.Proof.Deal
public import Idealize.ShloMosaic.Lib.Pipeline.CollectiveSegs

@[expose] public section

noncomputable section

namespace Cert.RowsOut

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The two inputs of device `c` as its staging buffers hold them. -/
abbrev xstg (c : Dev nD) : FVec F S32x1024 .bf16 :=
  (win0_0.blk (0 : Fin 1)).view.read (Elt F) ((s₀ m ρ).mem ((c : Thread nD τ).loc main_arg0))
abbrev wstg (c : Dev nD) : FVec F S1024x1024 .bf16 :=
  (win0_1.blk (0 : Fin 1)).view.read (Elt F) ((s₀ m ρ).mem ((c : Thread nD τ).loc main_arg1))

/-- The product of device `c`. -/
def prod (c : Dev nD) : FVec F S32x1024 .f32 := k0_pay1 (xstg m ρ c) (wstg m ρ c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from besides its buffers. -/
def start (c : Dev nD) : sProp 𝕄 := iprop(G' (prod m ρ) c ∗ credits c ∗ levAts L lv)

def Φ₀ (c : Dev nD) : sProp 𝕄 := iprop(start m ρ c ∗ ∃ f, ((c : Thread nD τ).loc cc0_scratch0) ↦{fullShare} f)
/-- What it leaves: its buffer for the product whole, and each of its cells closed at zero. -/
def Φ₁ (c : Dev nD) : sProp 𝕄 :=
  iprop(eachCell c (fun g => semVal g 0) ∗ (((c : Thread nD τ).loc cc0_scratch0) ↦{fullShare} cut (prod m ρ c)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => gather (prod m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body as the launch runs it -/

/-- Staging buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ
    ∗ stg c cc0_stg0_0 (xstg m ρ c) ∗ stg c cc0_stg1_0 (wstg m ρ c) ∗ stg c cc0_stg2_0 (gather (prod m ρ) c))

theorem sound_body (c : Dev nD) :
    bodyPre m ρ c
      ⊢ wpB c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyPost m ρ c) := by
  rw [body_eq]
  unfold bodyPre Φ₀ start G'
  iintro ⟨⟨⟨⟨%K, Hg⟩, Hc, Hlev⟩, Hy⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  iapply (body_loops (prod m ρ) K c (xstg m ρ c) (wstg m ρ c) rfl fun _ => bodyPost m ρ c)
  isplitl
  · isplitl [Hg]; · iexact Hg
    isplitl [Hc]; · iexact Hc
    isplitl [Hlev]; · iexact Hlev
    isplitl [HO]; · unfold owing; iexists W; iexact HO
    isplitl [Hx]; · iexact Hx
    isplitl [Hw]; · iexact Hw
    isplitl [Hout]; · iexists g2; iexact Hout
    iexact Hy
  · unfold bodyPost Φ₁ Dat.owesAt Pipeline.owesWithin owing
    iintro ⟨Hz, ⟨%W', HO⟩, Hx, Hw, Hout, Hy⟩
    isplitl [Hz Hy]
    · isplitl [Hz] <;> iassumption
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

set_option maxRecDepth 65536 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prod m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [← eachCell_eq, ← sems_eq]
  iintro ⟨⟨Hu, Ho⟩, Hr⟩
  isplitl [Hu]; · iexact Hu
  isplitl [Ho]; · iexact Ho
  iexists (cut (prod m ρ c)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prod m ρ)) (G' := G' (prod m ρ)) (u₀ := u₀)
    (hu₀ := by
      unfold u₀
      iintro Hu
      ihave H := (ownU_pair _ _) $$ Hu
      icases H with ⟨HP, HX⟩
      imod (fund_all (prod m ρ)) $$ HX with HG
      imodintro
      isplitl [HP] <;> iassumption)
    (hglob := glob (prod m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The two arguments hold after the run what they held; -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.RowsOut

end
-- ==== Proof.Value.lean ====
/-
What the run leaves in the result arrays, and why it is the reference's product.

The result array of device `c` is `gather` of the products, for any float values. Over the extended reals a product is a
sum over the contracted coordinate, so row `i` of that array, which comes from device `i / 32`, is the sum the reference
has in row `i`, read in the columns of block `c`.
-/
module

public import proofs.«01_k».proof.Proof.Run
public import proofs.«01_k».proof.Proof.Gen.KernelIdeal.Points
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Pipeline.ValueKit.Geometry

@[expose] public section

noncomputable section

namespace Cert.RowsOut

open Cert.KernelIdeal Cert.KernelIdeal.Gen
open Idealize.ShloMosaic Idealize.ShloMosaic.TcCoe Idealize.ShloMosaic.ValueIdx
open Idealize.SL Idealize.SL.Sem

section
variable {F : FTy → Type} [FloatOps F] (m : (ℓ : Loc nD τ sig) → Buf (Elt F) ℓ) (ρ : Dev nD → PrngReg)

/-- The one block of each argument's window is the whole array. -/
theorem xstg_eq (c : Dev nD) : xstg m ρ c = m ((c : Thread nD τ).loc main_arg0) :=
  Memref.read_access_unit_zero (Elt F) main_arg0 (funext fun a => by fin_cases a <;> decide)
    (fun a => by fin_cases a <;> decide) _

theorem wstg_eq (c : Dev nD) : wstg m ρ c = m ((c : Thread nD τ).loc main_arg1) :=
  Memref.read_access_unit_zero (Elt F) main_arg1 (funext fun a => by fin_cases a <;> decide)
    (fun a => by fin_cases a <;> decide) _

/-- The result array ends holding the gathered rows of the products. -/
theorem finalA_out (c : Dev nD) : finalA m ρ c (2 : Fin 3) = gather (prod m ρ) c :=
  funext fun i => (dats m ρ 0 c).arrAt_emb_eq_after_last (2 : Fin 3) t₀ (by decide +kernel) i

end

/-! ## Over the extended reals -/

theorem dot_plain : dot_S32x1024_S1024x1024_S32x1024_1_0_0_1_n_n = DotDims.plain 32 1024 1024 := rfl
theorem dot_plain_ref :
    Cert.ReferenceIdeal.dot_S1024x1024_S1024x1024_S1024x1024_1_0_0_1_n_n = DotDims.plain 1024 1024 1024 := rfl

/-- A device's product at a row and a column. -/
theorem k0_pay1_apply (x : FVec Ideal S32x1024 .bf16) (w : FVec Ideal S1024x1024 .bf16) (r : Fin 32) (j : Fin 1024) :
    k0_pay1 (F := Ideal) x w (ix2 r j) = (∑ k : Fin 1024, x (ix2 r k) * w (ix2 k j) : EReal) := by
  unfold k0_pay1
  simp only [shapeCast_self, matmul]
  rw [dot_plain, Ideal.matmul_plain_apply]
  refine (congrArg (· + _) Ideal.ofBits_zero_f32).trans (zero_add _)

/-- The reference's result: the product of the whole arrays through the two changes of format. -/
def whole (X W : FVec Ideal Cert.ReferenceIdeal.S1024x1024 .bf16) : FVec Ideal Cert.ReferenceIdeal.S1024x1024 .f32 :=
  extf .f32 (truncf .bf16 (Host.dotGeneral Cert.ReferenceIdeal.dot_S1024x1024_S1024x1024_S1024x1024_1_0_0_1_n_n none
    (extf .f32 X Cert.ReferenceIdeal.Facts₀.bitsLt_bf16_f32) (extf .f32 W Cert.ReferenceIdeal.Facts₀.bitsLt_bf16_f32))
    Cert.ReferenceIdeal.Facts₀.bitsLt_bf16_f32) Cert.ReferenceIdeal.Facts₀.bitsLt_bf16_f32

theorem whole_apply (X W : FVec Ideal Cert.ReferenceIdeal.S1024x1024 .bf16) (i j : Fin 1024) :
    whole X W (ix2 i j) = (∑ k : Fin 1024, X (ix2 i k) * W (ix2 k j) : EReal) :=
  StackMember.dotGeneral_plain_apply (m := 1024) (n := 1024) (k := 1024) none (φ₁ := .f32) (φ₂ := .f32) X W i j

/-- If every device multiplies its 32 rows of `X` by `W`, the gathered rows of device `c` are columns
    `32 c … 32 c + 31` of the whole product. -/
theorem gather_block (X W : FVec Ideal Cert.ReferenceIdeal.S1024x1024 .bf16) (c : Dev nD) :
    gather (fun d => k0_pay1 (F := Ideal) (Layout.block ⟨2, ![32, 1024]⟩ ⟨2, ![1024, 1024]⟩ 0 32 d X) W) c
      = Layout.block ⟨2, ![1024, 32]⟩ ⟨2, ![1024, 1024]⟩ 1 32 c (whole X W) := by
  funext i
  have h0 : (i 0).val < 1024 := (i 0).isLt
  have h1 : (i 1).val < 32 := (i 1).isLt
  have hc : c.val < 32 := c.isLt
  have hcol := Layout.idx_cols_val (by decide : Layout.Tiles ⟨2, ![1024, 32]⟩ ⟨2, ![1024, 1024]⟩ 1 32) c i
  have hi : (by decide : Layout.Tiles ⟨2, ![1024, 32]⟩ ⟨2, ![1024, 1024]⟩ 1 32).idx c i
      = ix2 (⟨(i 0).val, h0⟩ : Fin 1024) (⟨32 * c.val + (i 1).val, by omega⟩ : Fin 1024) := by
    funext a
    fin_cases a
    · exact Fin.ext hcol.1
    · exact Fin.ext (hcol.2.trans (show c.val * 32 + (i 1).val = 32 * c.val + (i 1).val by omega))
  rw [Layout.block_apply, hi, whole_apply]
  unfold gather cut
  refine (k0_pay1_apply _ _ _ _).trans (Finset.sum_congr rfl fun k _ => ?_)
  congr 1
  rw [Layout.block_apply]
  have hrow := Layout.idx_rows_val (by decide : Layout.Tiles ⟨2, ![32, 1024]⟩ ⟨2, ![1024, 1024]⟩ 0 32) (rowDev i)
    (ix2 (⟨(i 0).val % 32, Nat.mod_lt _ (by decide)⟩ : Fin 32) k)
  refine congrArg X (funext fun a => ?_)
  fin_cases a
  · exact Fin.ext (hrow.1.trans (show (i 0).val / 32 * 32 + (i 0).val % 32 = (i 0).val by omega))
  · exact Fin.ext hrow.2

end Cert.RowsOut

end
-- ==== Proof.lean ====
/-
The claims about the kernel, proved.

The kernel and its reading over the extended reals are one text (`defs_same`), and `Cert.RowsOut.run_main` runs that text for any float
values, so both frames are that run at one choice of values each. The value claim is the same run, its result arrays read
by `Cert.RowsOut.finalA_out` and set beside the reference by `Cert.RowsOut.gather_block`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two copies of the text have one body table; -/
theorem defs₀_same : Cert.Kernel.defs₀ (F := Bits) = Cert.KernelIdeal.defs₀ (F := Bits) := by
  unfold Cert.Kernel.defs₀ Cert.KernelIdeal.defs₀
  refine congrArg Defs.onTc (funext fun l => ?_)
  exact Fin.cases rfl (fun j => j.elim0) l

theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ => by
  rw [defs_same]
  exact (θ_run Cert.KernelIdeal.defs _ _).mono
    (fun _ h => ⟨fun c => ⟨(h.1 c 0).trans (Cert.RowsOut.finalA_x m ρ c), (h.1 c 1).trans (Cert.RowsOut.finalA_w m ρ c)⟩, h.2⟩)
    (Cert.RowsOut.run_main (F := Bits) m ρ)

theorem frame_ideal : Cert.quiescent_KernelIdeal := fun m ρ _ =>
  (θ_run Cert.KernelIdeal.defs _ _).mono
    (fun _ h => ⟨fun c => ⟨(h.1 c 0).trans (Cert.RowsOut.finalA_x m ρ c), (h.1 c 1).trans (Cert.RowsOut.finalA_w m ρ c)⟩, h.2⟩)
    (Cert.RowsOut.run_main (F := Ideal) m ρ)

/-- The reference declares no semaphore, so its counters are zero by themselves. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The result array of device `c` is block `c` of columns of the reference's product. -/
theorem value : Cert.algebraic_KernelIdeal_ReferenceIdeal := by
  intro m ρ m' ρ' _ hagree
  refine ⟨Cert.RowsOut.whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨(h.1 c 2).trans ?_, (h.1 c 0).trans (Cert.RowsOut.finalA_x m ρ c), (h.1 c 1).trans (Cert.RowsOut.finalA_w m ρ c)⟩)
      (Cert.RowsOut.run_main (F := Ideal) m ρ)
    have hprod : Cert.RowsOut.prod (F := Ideal) m ρ = fun d => Cert.KernelIdeal.Gen.k0_pay1 (F := Ideal)
        (Layout.block ⟨2, ![32, 1024]⟩ ⟨2, ![1024, 1024]⟩ 0 32 d
          (m' (((0 : Dev Cert.ReferenceIdeal.nD).tc : Thread _ Cert.ReferenceIdeal.τ).loc Cert.ReferenceIdeal.main_arg0)))
        (m' (((0 : Dev Cert.ReferenceIdeal.nD).tc : Thread _ Cert.ReferenceIdeal.τ).loc Cert.ReferenceIdeal.main_arg1)) :=
      funext fun d => congrArg₂ Cert.KernelIdeal.Gen.k0_pay1
        ((Cert.RowsOut.xstg_eq m ρ d).trans (hagree d).1) ((Cert.RowsOut.wstg_eq m ρ d).trans (hagree d).2)
    rw [Cert.RowsOut.finalA_out, hprod]
    exact Cert.RowsOut.gather_block _ _ c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
